-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_below_the_cutoff [hPre_below_the_cutoff : Cert.Pre_below_the_cutoff.Facts] (m : (ℓ : Loc Cert.KernelIdeal.nD Cert.KernelIdeal.τ Cert.KernelIdeal.sig) → Buf (Elt Ideal) ℓ) : Prop :=
  ∀ c : Dev Cert.KernelIdeal.nD,
    (Cert.Pre_below_the_cutoff.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_below_the_cutoff [hPre_below_the_cutoff : Cert.Pre_below_the_cutoff.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_below_the_cutoff.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_below_the_cutoff [hKernelIdeal : Cert.KernelIdeal.Facts] [hPre_below_the_cutoff : Cert.Pre_below_the_cutoff.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_below_the_cutoff m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_below_the_cutoff [hReferenceIdeal : Cert.ReferenceIdeal.Facts] [hPre_below_the_cutoff : Cert.Pre_below_the_cutoff.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_below_the_cutoff m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_below_the_cutoff [hKernelIdeal : Cert.KernelIdeal.Facts] [hReferenceIdeal : Cert.ReferenceIdeal.Facts] [hPre_below_the_cutoff : Cert.Pre_below_the_cutoff.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_below_the_cutoff m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def holds_KernelIdeal_near_the_cosine_pre_in_range [hKernelIdeal : Cert.KernelIdeal.Facts] [hPre_in_range : Cert.Pre_in_range.Facts] [hPost_near_the_cosine : Cert.Post_near_the_cosine.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ (Cert.Post_near_the_cosine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (r.2.mem ((c.tc : Thread Cert.KernelIdeal.nD Cert.KernelIdeal.τ).loc Cert.KernelIdeal.main_v2))) = (fun _ => 1#1))

def Claim : Prop :=
  ∃ (hKernel : Cert.Kernel.Facts) (hKernelIdeal : Cert.KernelIdeal.Facts) (hReferenceIdeal : Cert.ReferenceIdeal.Facts) (hPre_below_the_cutoff : Cert.Pre_below_the_cutoff.Facts) (hPre_in_range : Cert.Pre_in_range.Facts) (hPost_near_the_cosine : Cert.Post_near_the_cosine.Facts),
    quiescent_Kernel (hKernel := hKernel)
    ∧ quiescent_KernelIdeal (hKernelIdeal := hKernelIdeal)
    ∧ quiescent_KernelIdeal_pre_below_the_cutoff (hKernelIdeal := hKernelIdeal) (hPre_below_the_cutoff := hPre_below_the_cutoff)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_below_the_cutoff (hReferenceIdeal := hReferenceIdeal) (hPre_below_the_cutoff := hPre_below_the_cutoff)
    ∧ preserves_Kernel_KernelIdeal
    ∧ algebraic_KernelIdeal_ReferenceIdeal_pre_below_the_cutoff (hKernelIdeal := hKernelIdeal) (hReferenceIdeal := hReferenceIdeal) (hPre_below_the_cutoff := hPre_below_the_cutoff)
    ∧ holds_KernelIdeal_near_the_cosine_pre_in_range (hKernelIdeal := hKernelIdeal) (hPre_in_range := hPre_in_range) (hPost_near_the_cosine := hPost_near_the_cosine)
-- ==== Post_near_the_cosine.lean ====
abbrev S3200000x1 : Shape := ⟨2, ![3200000, 1]⟩
abbrev S3200000x3 : Shape := ⟨2, ![3200000, 3]⟩
abbrev S2x3200000 : Shape := ⟨2, ![2, 3200000]⟩
abbrev S100000 : Shape := ⟨1, ![100000]⟩
abbrev S3200000x32 : Shape := ⟨2, ![3200000, 32]⟩
abbrev S_ : Shape := ⟨0, ![]⟩
abbrev S31 : Shape := ⟨1, ![31]⟩
abbrev S1 : Shape := ⟨1, ![1]⟩
abbrev S32 : Shape := ⟨1, ![32]⟩
abbrev S1x32 : Shape := ⟨2, ![1, 32]⟩

class Facts : Prop where
  bcast_S_S31 : S_.BroadcastsInDim S31 (![] : Fin 0 → Fin S31.rank)
  shapeCasts_S_S1 : S_.ShapeCasts S1
  bcast_S1_S31_0 : S1.BroadcastsInDim S31 (![0] : Fin 1 → Fin S31.rank)
  bcast_S_S1 : S_.BroadcastsInDim S1 (![] : Fin 0 → Fin S1.rank)
  concatenates_S31_S1_S32_d0 : Shape.Concatenates [S31, S1] S32 0
  bcast_S_S32 : S_.BroadcastsInDim S32 (![] : Fin 0 → Fin S32.rank)
  bcast_S_S3200000x1 : S_.BroadcastsInDim S3200000x1 (![] : Fin 0 → Fin S3200000x1.rank)
  bcast_S32_S1x32_1 : S32.BroadcastsInDim S1x32 (![1] : Fin 1 → Fin S1x32.rank)
  bcast_S3200000x1_S3200000x32_0_1 : S3200000x1.BroadcastsInDim S3200000x32 (![0, 1] : Fin 2 → Fin S3200000x32.rank)
  bcast_S1x32_S3200000x32_0_1 : S1x32.BroadcastsInDim S3200000x32 (![0, 1] : Fin 2 → Fin S3200000x32.rank)
  bcast_S_S3200000x32 : S_.BroadcastsInDim S3200000x32 (![] : Fin 0 → Fin S3200000x32.rank)

variable [Facts]

def fn_linspace {F : FTy → Type} [FloatOps F] (arg0 : FVec F S_ .f32) (arg1 : FVec F S_ .f32) : FVec F S32 .f32 :=
  let v0 : FVec F S_ .f32 := id arg0
  let v1 : FVec F S_ .f32 := id arg1
  let v2 : FVec F S_ .f32 := subf v1 v0
  let cst : FVec F S_ .f32 := constant S_ .f32 0x41F80000#32
  let v3 : FVec F S_ .f32 := Host.divf v2 cst
  let v4 : FVec F S31 .f32 := sitofp .f32 (iotaInDim S31 32 0)
  let cst_0 : FVec F S_ .f32 := constant S_ .f32 0x41F80000#32
  let v5 : FVec F S31 .f32 := broadcastInDim S31 ![] bcast_S_S31 cst_0
  let v6 : FVec F S31 .f32 := Host.divf v4 v5
  let v7 : FVec F S1 .f32 := shapeCast S1 v0 shapeCasts_S_S1
  let cst_1 : FVec F S_ .f32 := constant S_ .f32 0x3F800000#32
  let v8 : FVec F S31 .f32 := broadcastInDim S31 ![] bcast_S_S31 cst_1
  let v9 : FVec F S31 .f32 := subf v8 v6
  let v10 : FVec F S31 .f32 := broadcastInDim S31 ![0] bcast_S1_S31_0 v7
  let v11 : FVec F S31 .f32 := mulf v10 v9
  let v12 : FVec F S1 .f32 := shapeCast S1 v1 shapeCasts_S_S1
  let v13 : FVec F S31 .f32 := broadcastInDim S31 ![0] bcast_S1_S31_0 v12
  let v14 : FVec F S31 .f32 := mulf v13 v6
  let v15 : FVec F S31 .f32 := addf v11 v14
  let v16 : FVec F S1 .f32 := broadcastInDim S1 ![] bcast_S_S1 v1
  let v17 : FVec F S32 .f32 := (fun a b => concatenate S32 0 [⟨S31, a⟩, ⟨S1, b⟩] concatenates_S31_S1_S32_d0) v15 v16
  v17

def fn_part1 {F : FTy → Type} [FloatOps F] (main_arg0 : FVec F S3200000x1 .f32) (main_arg4 : FVec F S3200000x32 .f32) (main_v17 : FVec F S3200000x32 .f32) (main_cst_4 : FVec F S_ .f32) : IVec S3200000x32 1 :=
  let main_v18 : FVec F S3200000x1 .f32 := broadcastInDim S3200000x1 ![] bcast_S_S3200000x1 main_cst_4
  let main_v19 : FVec F S3200000x1 .f32 := mulf main_arg0 main_v18
  let main_cst_5 : FVec F S_ .f32 := constant S_ .f32 0x40A00000#32
  let main_v20 : FVec F S3200000x1 .f32 := broadcastInDim S3200000x1 ![] bcast_S_S3200000x1 main_cst_5
  let main_v21 : FVec F S3200000x1 .f32 := Host.divf main_v19 main_v20
  let main_v22 : FVec F S3200000x1 .f32 := Host.cos main_v21
  let main_cst_6 : FVec F S_ .f32 := constant S_ .f32 0x3F800000#32
  let main_v23 : FVec F S3200000x1 .f32 := broadcastInDim S3200000x1 ![] bcast_S_S3200000x1 main_cst_6
  let main_v24 : FVec F S3200000x1 .f32 := addf main_v22 main_v23
  let main_cst_7 : FVec F S_ .f32 := constant S_ .f32 0x3F000000#32
  let main_v25 : FVec F S3200000x1 .f32 := broadcastInDim S3200000x1 ![] bcast_S_S3200000x1 main_cst_7
  let main_v26 : FVec F S3200000x1 .f32 := mulf main_v25 main_v24
  let main_cst_8 : FVec F S_ .f32 := constant S_ .f32 0x40A00000#32
  let main_v27 : FVec F S3200000x1 .f32 := broadcastInDim S3200000x1 ![] bcast_S_S3200000x1 main_cst_8
  let main_v28 : IVec S3200000x1 1 := cmpf .olt main_arg0 main_v27
  let main_v29 : FVec F S3200000x1 .f32 := uitofp .f32 main_v28
  let main_v30 : FVec F S3200000x1 .f32 := mulf main_v26 main_v29
  let main_v31 : FVec F S3200000x32 .f32 := broadcastInDim S3200000x32 ![0, 1] bcast_S3200000x1_S3200000x32_0_1 main_v30
  let main_v32 : FVec F S3200000x32 .f32 := mulf main_v17 main_v31
  let main_v33 : FVec F S3200000x32 .f32 := subf main_arg4 main_v32
  let main_v34 : FVec F S3200000x32 .f32 := Host.absf main_v33
  let main_cst_9 : FVec F S_ .f32 := constant S_ .f32 0x38D1B717#32
  let main_v35 : FVec F S3200000x32 .f32 := broadcastInDim S3200000x32 ![] bcast_S_S3200000x32 main_cst_9
  let main_v36 : IVec S3200000x32 1 := cmpf .ole main_v34 main_v35
  main_v36

def fn {F : FTy → Type} [FloatOps F] (main_arg0 : FVec F S3200000x1 .f32) (main_arg1 : FVec F S3200000x3 .f32) (main_arg2 : IVec S2x3200000 32) (main_arg3 : IVec S100000 32) (main_arg4 : FVec F S3200000x32 .f32) : IVec S3200000x32 1 :=
  let main_cst : FVec F S_ .f32 := constant S_ .f32 0x3BDCC9FF#32
  let main_cst_0 : FVec F S_ .f32 := constant S_ .f32 0x3F800000#32
  let main_v0 : FVec F S32 .f32 := fn_linspace (F := F) main_cst main_cst_0
  let main_cst_1 : FVec F S_ .f32 := constant S_ .f32 0x4381BE15#32
  let main_v1 : FVec F S32 .f32 := broadcastInDim S32 ![] bcast_S_S32 main_cst_1
  let main_v2 : FVec F S32 .f32 := Host.negf main_v1
  let main_v3 : FVec F S3200000x1 .f32 := Host.negf main_arg0
  let main_cst_2 : FVec F S_ .f32 := constant S_ .f32 0x00000000#32
  let main_v4 : FVec F S3200000x1 .f32 := broadcastInDim S3200000x1 ![] bcast_S_S3200000x1 main_cst_2
  let main_v5 : FVec F S3200000x1 .f32 := addf main_v3 main_v4
  let main_cst_3 : FVec F S_ .f32 := constant S_ .f32 0x3F800000#32
  let main_v6 : FVec F S3200000x1 .f32 := broadcastInDim S3200000x1 ![] bcast_S_S3200000x1 main_cst_3
  let main_v7 : FVec F S3200000x1 .f32 := mulf main_v6 main_v5
  let main_v8 : FVec F S3200000x1 .f32 := Host.exp main_v7
  let main_v9 : FVec F S1x32 .f32 := broadcastInDim S1x32 ![1] bcast_S32_S1x32_1 main_v0
  let main_v10 : FVec F S3200000x32 .f32 := broadcastInDim S3200000x32 ![0, 1] bcast_S3200000x1_S3200000x32_0_1 main_v8
  let main_v11 : FVec F S3200000x32 .f32 := broadcastInDim S3200000x32 ![0, 1] bcast_S1x32_S3200000x32_0_1 main_v9
  let main_v12 : FVec F S3200000x32 .f32 := subf main_v10 main_v11
  let main_v13 : FVec F S3200000x32 .f32 := mulf main_v12 main_v12
  let main_v14 : FVec F S1x32 .f32 := broadcastInDim S1x32 ![1] bcast_S32_S1x32_1 main_v2
  let main_v15 : FVec F S3200000x32 .f32 := broadcastInDim S3200000x32 ![0, 1] bcast_S1x32_S3200000x32_0_1 main_v14
  let main_v16 : FVec F S3200000x32 .f32 := mulf main_v15 main_v13
  let main_v17 : FVec F S3200000x32 .f32 := Host.exp main_v16
  let main_cst_4 : FVec F S_ .f32 := constant S_ .f32 0x40490FDB#32
  fn_part1 (F := F) main_arg0 main_arg4 main_v17 main_cst_4
-- ==== Pre_below_the_cutoff.lean ====
abbrev S3200000x1 : Shape := ⟨2, ![3200000, 1]⟩
abbrev S3200000x3 : Shape := ⟨2, ![3200000, 3]⟩
abbrev S2x3200000 : Shape := ⟨2, ![2, 3200000]⟩
abbrev S100000 : Shape := ⟨1, ![100000]⟩
abbrev S_ : Shape := ⟨0, ![]⟩

class Facts : Prop where
  bcast_S_S3200000x1 : S_.BroadcastsInDim S3200000x1 (![] : Fin 0 → Fin S3200000x1.rank)

variable [Facts]

def fn {F : FTy → Type} [FloatOps F] (main_arg0 : FVec F S3200000x1 .f32) (main_arg1 : FVec F S3200000x3 .f32) (main_arg2 : IVec S2x3200000 32) (main_arg3 : IVec S100000 32) : IVec S3200000x1 1 :=
  let main_cst : FVec F S_ .f32 := constant S_ .f32 0xFF800000#32
  let main_v0 : FVec F S3200000x1 .f32 := broadcastInDim S3200000x1 ![] bcast_S_S3200000x1 main_cst
  let main_v1 : IVec S3200000x1 1 := cmpf .ogt main_arg0 main_v0
  let main_cst_0 : FVec F S_ .f32 := constant S_ .f32 0x40A00000#32
  let main_v2 : FVec F S3200000x1 .f32 := broadcastInDim S3200000x1 ![] bcast_S_S3200000x1 main_cst_0
  let main_v3 : IVec S3200000x1 1 := cmpf .olt main_arg0 main_v2
  let main_v4 : IVec S3200000x1 1 := andi main_v1 main_v3
  main_v4
-- ==== Pre_in_range.lean ====
abbrev S3200000x1 : Shape := ⟨2, ![3200000, 1]⟩
abbrev S3200000x3 : Shape := ⟨2, ![3200000, 3]⟩
abbrev S2x3200000 : Shape := ⟨2, ![2, 3200000]⟩
abbrev S100000 : Shape := ⟨1, ![100000]⟩
abbrev S_ : Shape := ⟨0, ![]⟩

class Facts : Prop where
  bcast_S_S3200000x1 : S_.BroadcastsInDim S3200000x1 (![] : Fin 0 → Fin S3200000x1.rank)

variable [Facts]

def fn {F : FTy → Type} [FloatOps F] (main_arg0 : FVec F S3200000x1 .f32) (main_arg1 : FVec F S3200000x3 .f32) (main_arg2 : IVec S2x3200000 32) (main_arg3 : IVec S100000 32) : IVec S3200000x1 1 :=
  let main_cst : FVec F S_ .f32 := constant S_ .f32 0x00000000#32
  let main_v0 : FVec F S3200000x1 .f32 := broadcastInDim S3200000x1 ![] bcast_S_S3200000x1 main_cst
  let main_v1 : IVec S3200000x1 1 := cmpf .oge main_arg0 main_v0
  let main_cst_0 : FVec F S_ .f32 := constant S_ .f32 0x40A00000#32
  let main_v2 : FVec F S3200000x1 .f32 := broadcastInDim S3200000x1 ![] bcast_S_S3200000x1 main_cst_0
  let main_v3 : IVec S3200000x1 1 := cmpf .ole main_arg0 main_v2
  let main_v4 : IVec S3200000x1 1 := andi main_v1 main_v3
  main_v4
-- ==== Kernel.lean ====
abbrev S3200000x1 : Shape := ⟨2, ![3200000, 1]⟩
abbrev S3200000x3 : Shape := ⟨2, ![3200000, 3]⟩
abbrev S2x3200000 : Shape := ⟨2, ![2, 3200000]⟩
abbrev S100000 : Shape := ⟨1, ![100000]⟩
abbrev S128x128 : Shape := ⟨2, ![128, 128]⟩
abbrev S8x128 : Shape := ⟨2, ![8, 128]⟩
abbrev S1x128 : Shape := ⟨2, ![1, 128]⟩
abbrev S3200000 : Shape := ⟨1, ![3200000]⟩
abbrev S25000x128 : Shape := ⟨2, ![25000, 128]⟩
abbrev S3200000x32 : Shape := ⟨2, ![3200000, 32]⟩
abbrev S200x128 : Shape := ⟨2, ![200, 128]⟩
abbrev S25600x32 : Shape := ⟨2, ![25600, 32]⟩
abbrev S200x1x128 : Shape := ⟨3, ![200, 1, 128]⟩
abbrev S200x32x128 : Shape := ⟨3, ![200, 32, 128]⟩
abbrev S6400x128 : Shape := ⟨2, ![6400, 128]⟩
abbrev S6400x4 : Shape := ⟨2, ![6400, 4]⟩
abbrev S6400x8 : Shape := ⟨2, ![6400, 8]⟩
abbrev S6400x32 : Shape := ⟨2, ![6400, 32]⟩

abbrev nBuf : Space → Nat
  | .hbm => 10
  | .vmem => 7
  | .smem => 0
  | _ => 0

abbrev bufTy : (tb : Table) → Fin (tcTables nBuf tb) → BufTy
  | .hbm, ⟨0, _⟩ => ⟨S3200000x1, .f32⟩
  | .hbm, ⟨1, _⟩ => ⟨S3200000x3, .f32⟩
  | .hbm, ⟨2, _⟩ => ⟨S2x3200000, .i32⟩
  | .hbm, ⟨3, _⟩ => ⟨S100000, .i32⟩
  | .hbm, ⟨4, _⟩ => ⟨S128x128, .bf16⟩
  | .hbm, ⟨5, _⟩ => ⟨S8x128, .bf16⟩
  | .hbm, ⟨6, _⟩ => ⟨S1x128, .f32⟩
  | .hbm, ⟨7, _⟩ => ⟨S3200000, .f32⟩
  | .hbm, ⟨8, _⟩ => ⟨S25000x128, .f32⟩
  | .hbm, ⟨9, _⟩ => ⟨S3200000x32, .f32⟩
  | .local _ .vmem, ⟨0, _⟩ => ⟨S200x128, .f32⟩
  | .local _ .vmem, ⟨1, _⟩ => ⟨S200x128, .f32⟩
  | .local _ .vmem, ⟨2, _⟩ => ⟨S128x128, .bf16⟩
  | .local _ .vmem, ⟨3, _⟩ => ⟨S8x128, .bf16⟩
  | .local _ .vmem, ⟨4, _⟩ => ⟨S1x128, .f32⟩
  | .local _ .vmem, ⟨5, _⟩ => ⟨S25600x32, .f32⟩
  | .local _ .vmem, ⟨6, _⟩ => ⟨S25600x32, .f32⟩
  | _, _ => ⟨S3200000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_cst_1 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S25600x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S3200000x1 : Shape := ⟨2, ![3200000, 1]⟩
abbrev S3200000x3 : Shape := ⟨2, ![3200000, 3]⟩
abbrev S2x3200000 : Shape := ⟨2, ![2, 3200000]⟩
abbrev S100000 : Shape := ⟨1, ![100000]⟩
abbrev S32 : Shape := ⟨1, ![32]⟩
abbrev S_ : Shape := ⟨0, ![]⟩
abbrev S1x32 : Shape := ⟨2, ![1, 32]⟩
abbrev S3200000x32 : Shape := ⟨2, ![3200000, 32]⟩

abbrev nBuf : Space → Nat
  | .hbm => 57
  | .vmem => 0
  | .smem => 0
  | _ => 0

abbrev bufTy : (tb : Table) → Fin (tcTables nBuf tb) → BufTy
  | .hbm, ⟨0, _⟩ => ⟨S3200000x1, .f32⟩
  | .hbm, ⟨1, _⟩ => ⟨S3200000x3, .f32⟩
  | .hbm, ⟨2, _⟩ => ⟨S2x3200000, .i32⟩
  | .hbm, ⟨3, _⟩ => ⟨S100000, .i32⟩
  | .hbm, ⟨4, _⟩ => ⟨S32, .f32⟩
  | .hbm, ⟨5, _⟩ => ⟨S_, .f32⟩
  | .hbm, ⟨6, _⟩ => ⟨S3200000x1, .f32⟩
  | .hbm, ⟨7, _⟩ => ⟨S3200000x1, .f32⟩
  | .hbm, ⟨8, _⟩ => ⟨S_, .f32⟩
  | .hbm, ⟨9, _⟩ => ⟨S3200000x1, .f32⟩
  | .hbm, ⟨10, _⟩ => ⟨S3200000x1, .f32⟩
  | .hbm, ⟨11, _⟩ => ⟨S3200000x1, .f32⟩
  | .hbm, ⟨12, _⟩ => ⟨S3200000x1, .f32⟩
  | .hbm, ⟨13, _⟩ => ⟨S_, .f32⟩
  | .hbm, ⟨14, _⟩ => ⟨S3200000x1, .f32⟩
  | .hbm, ⟨15, _⟩ => ⟨S3200000x1, .f32⟩
  | .hbm, ⟨16, _⟩ => ⟨S3200000x1, .f32⟩
  | .hbm, ⟨17, _⟩ => ⟨S3200000x1, .f32⟩
  | .hbm, ⟨18, _⟩ => ⟨S3200000x1, .f32⟩
  | .hbm, ⟨19, _⟩ => ⟨S3200000x1, .f32⟩
  | .hbm, ⟨20, _⟩ => ⟨S_, .f32⟩
  | .hbm, ⟨21, _⟩ => ⟨S3200000x1, .f32⟩
  | .hbm, ⟨22, _⟩ => ⟨S3200000x1, .f32⟩
  | .hbm, ⟨23, _⟩ => ⟨S3200000x1, .f32⟩
  | .hbm, ⟨24, _⟩ => ⟨S_, .f32⟩
  | .hbm, ⟨25, _⟩ => ⟨S3200000x1, .f32⟩
  | .hbm, ⟨26, _⟩ => ⟨S3200000x1, .f32⟩
  | .hbm, ⟨27, _⟩ => ⟨S_, .f32⟩
  | .hbm, ⟨28, _⟩ => ⟨S3200000x1, .f32⟩
  | .hbm, ⟨29, _⟩ => ⟨S3200000x1, .f32⟩
  | .hbm, ⟨30, _⟩ => ⟨S_, .f32⟩
  | .hbm, ⟨31, _⟩ => ⟨S3200000x1, .f32⟩
  | .hbm, ⟨32, _⟩ => ⟨S3200000x1, .i1⟩
  | .hbm, ⟨33, _⟩ => ⟨S3200000x1, .f32⟩
  | .hbm, ⟨34, _⟩ => ⟨S3200000x1, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S3200000x1, .f32⟩
  | .hbm, ⟨39, _⟩ => ⟨S_, .f32⟩
  | .hbm, ⟨40, _⟩ => ⟨S3200000x1, .f32⟩
  | .hbm, ⟨41, _⟩ => ⟨S3200000x1, .f32⟩
  | .hbm, ⟨42, _⟩ => ⟨S_, .f32⟩
  | .hbm, ⟨43, _⟩ => ⟨S3200000x1, .f32⟩
  | .hbm, ⟨44, _⟩ => ⟨S3200000x1, .f32⟩
  | .hbm, ⟨45, _⟩ => ⟨S3200000x1, .f32⟩
  | .hbm, ⟨46, _⟩ => ⟨S1x32, .f32⟩
  | .hbm, ⟨47, _⟩ => ⟨S3200000x32, .f32⟩
  | .hbm, ⟨48, _⟩ => ⟨S3200000x32, .f32⟩
  | .hbm, ⟨49, _⟩ => ⟨S3200000x32, .f32⟩
  | .hbm, ⟨50, _⟩ => ⟨S3200000x32, .f32⟩
  | .hbm, ⟨51, _⟩ => ⟨S1x32, .f32⟩
  | .hbm, ⟨52, _⟩ => ⟨S3200000x32, .f32⟩
  | .hbm, ⟨53, _⟩ => ⟨S3200000x32, .f32⟩
  | .hbm, ⟨54, _⟩ => ⟨S3200000x32, .f32⟩
  | .hbm, ⟨55, _⟩ => ⟨S3200000x32, .f32⟩
  | .hbm, ⟨56, _⟩ => ⟨S3200000x32, .f32⟩
  | _, _ => ⟨S3200000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_cst_9 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Proof.KernelIdealRun.lean ====
/- The kernel's body and its launch. The body reads its four input blocks whole and writes its output block by four
   stores, the k-th of which fills the rows k, k + 4, k + 8, … . So the output block is known whole from the input
   blocks, whatever it held before, and the pipelined launch follows point by point. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Strided

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body writes -/

/-- The rows k, k + 4, k + 8, … of the output block, for k = 0, 1, 2, 3. -/
abbrev rows0 : Rect S25600x32 := ⟨⟨![0, 0], S6400x32.size, ![4, 1], inb_S25600x32_S6400x32_0_0_s_4_1⟩, spos_4_1⟩
@[inherit_doc rows0]
abbrev rows1 : Rect S25600x32 := ⟨⟨![1, 0], S6400x32.size, ![4, 1], inb_S25600x32_S6400x32_1_0_s_4_1⟩, spos_4_1⟩
@[inherit_doc rows0]
abbrev rows2 : Rect S25600x32 := ⟨⟨![2, 0], S6400x32.size, ![4, 1], inb_S25600x32_S6400x32_2_0_s_4_1⟩, spos_4_1⟩
@[inherit_doc rows0]
abbrev rows3 : Rect S25600x32 := ⟨⟨![3, 0], S6400x32.size, ![4, 1], inb_S25600x32_S6400x32_3_0_s_4_1⟩, spos_4_1⟩

/-- The four input blocks, each read whole. -/
abbrev all0 : Rect S200x128 := Rect.unit (s := S200x128) ![0, 0] S200x128.size inb_S200x128_S200x128_0_0
@[inherit_doc all0]
abbrev all1 : Rect S128x128 := Rect.unit (s := S128x128) ![0, 0] S128x128.size inb_S128x128_S128x128_0_0
@[inherit_doc all0]
abbrev all2 : Rect S8x128 := Rect.unit (s := S8x128) ![0, 0] S8x128.size inb_S8x128_S8x128_0_0
@[inherit_doc all0]
abbrev all3 : Rect S1x128 := Rect.unit (s := S1x128) ![0, 0] S1x128.size inb_S1x128_S1x128_0_0

/-- The radial factor, one vector register's rows wide: four distances to a row, 32 centres to a distance. -/
def radials (x0 : Vec F S200x128 .f32) (x1 : Vec F S128x128 .bf16) (x2 : Vec F S8x128 .bf16) (x3 : Vec F S1x128 .f32) :
    FVec F S6400x128 .f32 :=
  k0_pay7 (View.ld x0 all0) (View.ld x1 all1) (View.ld x2 all2) (View.ld x3 all3)

/-- The distances less the middle of the range, spread the same way. -/
def shifted (x0 : Vec F S200x128 .f32) (x1 : Vec F S128x128 .bf16) (x2 : Vec F S8x128 .bf16) : FVec F S6400x128 .f32 :=
  k0_pay8 (View.ld x0 all0) (View.ld x1 all1) (View.ld x2 all2)

/-- The upper two terms of the cutoff's polynomial, in the square of the shifted distance. -/
def upper (x0 : Vec F S200x128 .f32) (x1 : Vec F S128x128 .bf16) (x2 : Vec F S8x128 .bf16) : FVec F S6400x128 .f32 :=
  k0_pay9 (View.ld x0 all0) (View.ld x1 all1) (View.ld x2 all2)

/-- The polynomial's coefficient at the first power. -/
def slope : F .f32 := Scalar.ofBits .f32 0xBEA0CFA2#32

/-- The output block the body leaves, from the input blocks. -/
def written (x0 : Vec F S200x128 .f32) (x1 : Vec F S128x128 .bf16) (x2 : Vec F S8x128 .bf16) (x3 : Vec F S1x128 .f32) :
    Vec F S25600x32 .f32 :=
  View.canon [⟨rows3, k0_pay5 (radials x0 x1 x2 x3) (shifted x0 x1 x2) (upper x0 x1 x2) slope⟩,
    ⟨rows2, k0_pay4 (radials x0 x1 x2 x3) (shifted x0 x1 x2) (upper x0 x1 x2) slope⟩,
    ⟨rows1, k0_pay3 (radials x0 x1 x2 x3) (shifted x0 x1 x2) (upper x0 x1 x2) slope⟩,
    ⟨rows0, k0_pay2 (radials x0 x1 x2 x3) (shifted x0 x1 x2) (upper x0 x1 x2) slope⟩]

/-- A row whose number is `k` more than a multiple of four lies in the `k`-th set of rows. -/
theorem mem_rows (r : Rect S25600x32) (k : ℕ) (h0 : r.off = ![k, 0]) (hs : r.size = S6400x32.size) (ht : r.stride = ![4, 1])
    (y : S25600x32.Idx) (hy : (y 0).val % 4 = k) : y ∈ r.set := by
  refine r.mem_set.mpr fun a => ?_
  rw [h0, hs, ht]
  have y0 : (y 0).val < 25600 := (y 0).isLt
  have y1 : (y 1).val < 32 := (y 1).isLt
  match a with
  | ⟨0, _⟩ => exact ⟨(y 0).val / 4, show (y 0).val / 4 < 6400 by omega, show (y 0).val = k + 4 * ((y 0).val / 4) by omega⟩
  | ⟨1, _⟩ => exact ⟨(y 1).val, y1, show (y 1).val = 0 + 1 * (y 1).val by omega⟩

/-- The four stores fill the block. -/
theorem rows_cover (p3 p2 p1 p0 : Vec F S6400x32 .f32) (y : S25600x32.Idx) :
    ∃ pc ∈ ([⟨rows3, p3⟩, ⟨rows2, p2⟩, ⟨rows1, p1⟩, ⟨rows0, p0⟩] : List (View.Piece (Elt F) S25600x32 .f32)), y ∈ pc.1.set := by
  have h4 : (y 0).val % 4 < 4 := Nat.mod_lt _ (by decide)
  rcases (by omega : (y 0).val % 4 = 0 ∨ (y 0).val % 4 = 1 ∨ (y 0).val % 4 = 2 ∨ (y 0).val % 4 = 3) with h | h | h | h
  · exact ⟨⟨rows0, p0⟩, .tail _ (.tail _ (.tail _ (.head _))), mem_rows rows0 0 rfl rfl rfl y h⟩
  · exact ⟨⟨rows1, p1⟩, .tail _ (.tail _ (.head _)), mem_rows rows1 1 rfl rfl rfl y h⟩
  · exact ⟨⟨rows2, p2⟩, .tail _ (.head _), mem_rows rows2 2 rfl rfl rfl y h⟩
  · exact ⟨⟨rows3, p3⟩, .head _, mem_rows rows3 3 rfl rfl rfl y h⟩

/-! ## The body -/

set_option maxHeartbeats 1000000 in
/-- The body, at any grid point: it keeps its input blocks and leaves `written` of them in the output block. -/
theorem body_writes (c : Dev nD) (E : Set ℕ) (i : grid0.Coords)
    (arg1 : Memref sig .tc .vmem S200x128 .f32) (harg1 : arg1.IsWhole) (arg2 : Memref sig .tc .vmem S128x128 .bf16) (harg2 : arg2.IsWhole)
    (arg3 : Memref sig .tc .vmem S8x128 .bf16) (harg3 : arg3.IsWhole) (arg4 : Memref sig .tc .vmem S1x128 .f32) (harg4 : arg4.IsWhole)
    (arg5 : Memref sig .tc .vmem S25600x32 .f32) (harg5 : arg5.IsWhole)
    (x0 : Vec F S200x128 .f32) (x1 : Vec F S128x128 .bf16) (x2 : Vec F S8x128 .bf16) (x3 : Vec F S1x128 .f32)
    (K : PUnit → sProp 𝕄) :
    iprop(owns (c : Thread nD τ) arg1 fullShare x0 ∗ owns (c : Thread nD τ) arg2 fullShare x1 ∗ owns (c : Thread nD τ) arg3 fullShare x2
      ∗ owns (c : Thread nD τ) arg4 fullShare x3 ∗ (∃ d, owns (c : Thread nD τ) arg5 fullShare d)
      ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (written x0 x1 x2 x3)) -∗ K ⟨⟩))
      ⊢ wp frame (wpE (defs₀ (F := F)) Variants.none c none) E
          (cc0__rbf_kernel i arg1 harg1 arg2 harg2 arg3 harg3 arg4 harg4 arg5 harg5) K := by
  simp only [cc0__rbf_kernel_eq_skeleton]
  unfold cc0__rbf_kernel_skel
  simp only [k0_part1_eq_skeleton]
  unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr; swap
  · iexact H4
  ipureintro
  refine (View.read_writes_eq_canon _ _ _ (rows_cover _ _ _ _)).trans ?_
  rfl

/-! ## The launch -/

/-- The launch's data: each window's array as the region finds it, and after point `t` the input blocks as they were
    and the output block as the body leaves it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => written (iblk m c 0 t) (iblk m c 1 t) (iblk m c 2 t) (iblk m c 3 t)
  Φ _ := Pipeline.ΦA spec0 c
  q _ := fullShare
  owed _ := 0

theorem A_eq (c : Dev nD) (w : Fin 5) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
/-- After point `t` the output block is what the body wrote. -/
theorem after4 (c : Dev nD) (t : Fin cfg0.N) :
    (dats m 0 c).after 4 t = written (iblk m c 0 t) (iblk m c 1 t) (iblk m c 2 t) (iblk m c 3 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- What the body is given at point `t`, -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at point `t`, over the blocks the pipeline stages. -/
theorem body_at (c : Dev nD) (t : Fin cfg0.N) :
    given m c t ⊢ wp frame (wpE (defs₀ (F := F)) Variants.none c none) Set.univ (bodyAt0 t) (fun _ => returned m c t) := by
  unfold given returned bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (body_writes c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The launch's table names this body at point `t`. -/
theorem body_row (t : Fin cfg0.N) : defs₀ (F := F) .tc cfg0.body (cfg0.bodyArgs t (cfg0.slots t)) = bodyAt0 t := by
  unfold defs₀; rw [Defs.onTc_tc]

/-- The body meets the pipeline's obligation at every point. -/
theorem body_meets (c : Dev nD) : BodyObligation (dats (F := F) m 0 c) (defs₀ (F := F)) Variants.none () Set.univ := fun t => by
  rw [bigSep_W0, bigSep_W0, body_row]
  exact triple_restated (body_at m c t) rfl .rfl fun _ => .rfl

set_option backward.isDefEq.respectTransparency.types false in
set_option maxHeartbeats 800000 in
/-- The launch runs, its arrays end as the points' write-backs leave them, and every semaphore ends at zero. -/
theorem runs : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_meets m c).loose) (hshare := fun c => (dats m 0 c).share_full fun _ => rfl)
    (howed := fun _ _ => rfl) (V := V m) (hmain := hmain m Variants.none) (hA := A_eq m) (hΦ := fun _ _ => rfl)

/-- The kernel runs, changes none of its arguments, and leaves every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  θ_run_and (frame_of m ρ (dats m) (A_eq m) ((θ_run defs _ _).mono (fun _ h => h.1) (runs m ρ)))
    ((θ_run defs _ _).mono (fun _ h => h.2) (runs m ρ))

end Cert.KernelIdeal.Strided

end
-- ==== Proof.Radial.lean ====
/- The features as functions of a real distance and a real centre, and the numbers the programs' constants denote. -/
module

public import proofs.«01_k».proof.ReferenceIdeal
public import Idealize.ShloMosaic.PureOps.Ideal
public import Idealize.ShloMosaic.Lib.IdealHost

@[expose] public section

set_option maxRecDepth 16384

noncomputable section

namespace Cert.Radial

open Idealize.ShloMosaic

/-! ## The numbers -/

/-- The rational number a binary32 word denotes, its exponent being neither all zeros nor all ones. -/
def wordVal (w : BitVec 32) : ℚ :=
  (if w.extractLsb' 31 1 == 1#1 then -1 else 1) * (2 ^ 23 + (w.extractLsb' 0 23).toNat) * 2 ^ (w.extractLsb' 23 8).toNat / 2 ^ 150

/-- Such a word's extended real is that rational. -/
theorem ofBits_eq (w : BitVec 32) (h0 : (w.extractLsb' 23 8).toNat ≠ 0) (h1 : (w.extractLsb' 23 8).toNat ≠ 255) :
    Ideal.ofBits .f32 w = ((wordVal w : ℝ) : EReal) := by
  show Ideal.ieee 8 23 w = _
  unfold Ideal.ieee wordVal
  dsimp only
  rw [if_neg (by simpa using h1), if_neg h0]
  refine congrArg _ ?_
  have e : (2 : ℝ) ^ (((w.extractLsb' 23 8).toNat : ℤ) - (2 ^ (8 - 1) - 1) - (23 : ℕ))
      = 2 ^ (w.extractLsb' 23 8).toNat / 2 ^ 150 := by
    rw [sub_sub, zpow_sub₀ (by norm_num), zpow_natCast]; norm_num
  rw [e]
  split_ifs <;> push_cast <;> ring

/-- A word's number, from its rational. -/
theorem ofBits_of (w : BitVec 32) (q : ℚ)
    (h : ((w.extractLsb' 23 8).toNat ≠ 0 ∧ (w.extractLsb' 23 8).toNat ≠ 255) ∧ wordVal w = q) :
    Ideal.ofBits .f32 w = ((q : ℝ) : EReal) := by
  rw [ofBits_eq w h.1.1 h.1.2, h.2]

/-- The steepness of the radial functions, (2/32 · (1 − exp(−5)))⁻² rounded to binary32. -/
def beta : ℝ := 8502805 / 32768

/-- The 32 centres, equally spaced from exp(−5) to 1 and rounded to binary32. -/
def centre (j : Fin 32) : ℝ := (wordVal (Cert.ReferenceIdeal.lit0 j) : ℝ)

/-- The coefficients of half the polynomial that stands for the cosine. -/
def c1 : ℝ := -5269457 / 16777216
@[inherit_doc c1]
def c3 : ℝ := 11039953 / 536870912
@[inherit_doc c1]
def c5 : ℝ := -12723345 / 34359738368

/-! The words of the constants, and the numbers they denote. -/

theorem bits_neg_beta : Ideal.ofBits .f32 0xC381BE15#32 = ((-beta : ℝ) : EReal) := by
  rw [ofBits_of _ (-8502805 / 32768) (by decide +kernel)]; unfold beta; push_cast; norm_num
theorem bits_beta : Ideal.ofBits .f32 0x4381BE15#32 = (beta : EReal) := by
  rw [ofBits_of _ (8502805 / 32768) (by decide +kernel)]; unfold beta; push_cast; norm_num
theorem bits_middle : Ideal.ofBits .f32 0x40200000#32 = ((5 / 2 : ℝ) : EReal) := by
  rw [ofBits_of _ (5 / 2) (by decide +kernel)]; push_cast; norm_num
theorem bits_c5 : Ideal.ofBits .f32 0xB9C22491#32 = (c5 : EReal) := by
  rw [ofBits_of _ (-12723345 / 34359738368) (by decide +kernel)]; unfold c5; push_cast; norm_num
theorem bits_c3 : Ideal.ofBits .f32 0x3CA874D1#32 = (c3 : EReal) := by
  rw [ofBits_of _ (11039953 / 536870912) (by decide +kernel)]; unfold c3; push_cast; norm_num
theorem bits_c1 : Ideal.ofBits .f32 0xBEA0CFA2#32 = (c1 : EReal) := by
  rw [ofBits_of _ (-5269457 / 16777216) (by decide +kernel)]; unfold c1; push_cast; norm_num
theorem bits_two_c5 : Ideal.ofBits .f32 0xBA422491#32 = ((2 * c5 : ℝ) : EReal) := by
  rw [ofBits_of _ (-12723345 / 17179869184) (by decide +kernel)]; exact congrArg Real.toEReal (by unfold c5; push_cast; norm_num)
theorem bits_two_c3 : Ideal.ofBits .f32 0x3D2874D1#32 = ((2 * c3 : ℝ) : EReal) := by
  rw [ofBits_of _ (11039953 / 268435456) (by decide +kernel)]; exact congrArg Real.toEReal (by unfold c3; push_cast; norm_num)
theorem bits_two_c1 : Ideal.ofBits .f32 0xBF20CFA2#32 = ((2 * c1 : ℝ) : EReal) := by
  rw [ofBits_of _ (-5269457 / 8388608) (by decide +kernel)]; exact congrArg Real.toEReal (by unfold c1; push_cast; norm_num)
theorem bits_half : Ideal.ofBits .f32 0x3F000000#32 = ((1 / 2 : ℝ) : EReal) := by
  rw [ofBits_of _ (1 / 2) (by decide +kernel)]; push_cast; norm_num
theorem bits_five : Ideal.ofBits .f32 0x40A00000#32 = ((5 : ℝ) : EReal) := by
  rw [ofBits_of _ 5 (by decide +kernel)]; push_cast; norm_num
theorem bits_zero : Ideal.ofBits .f32 0x00000000#32 = ((0 : ℝ) : EReal) := by
  rw [Ideal.ofBits_zero_f32]; rfl
theorem bits_one : Ideal.ofBits .f32 0x3F800000#32 = ((1 : ℝ) : EReal) := by
  rw [Ideal.ofBits_one_f32]; rfl

/-- Each word of the table of centres denotes its centre. -/
theorem bits_centre (j : Fin 32) : Ideal.ofBits .f32 (Cert.ReferenceIdeal.lit0 j) = (centre j : EReal) :=
  ofBits_eq _ ((by decide +kernel : ∀ j : Fin 32, ((Cert.ReferenceIdeal.lit0 j).extractLsb' 23 8).toNat ≠ 0) j)
    ((by decide +kernel : ∀ j : Fin 32, ((Cert.ReferenceIdeal.lit0 j).extractLsb' 23 8).toNat ≠ 255) j)

/-! ## The features -/

/-- The radial function of centre `c` at distance `d`. -/
def radial (d c : ℝ) : ℝ := Real.exp (-beta * ((Real.exp (-d) - c) * (Real.exp (-d) - c)))

/-- The cutoff at distance `d`, by the polynomial in `z = d − 5/2` that stands for the cosine. -/
def cutoff (d : ℝ) : ℝ := 1 / 2 + (c1 * (d - 5 / 2) + c3 * (d - 5 / 2) ^ 3 + c5 * (d - 5 / 2) ^ 5)

/-- The feature of centre `c` at distance `d`. -/
def feature (d c : ℝ) : ℝ := radial d c * cutoff d

end Cert.Radial

end
-- ==== Proof.KernelBlock.lean ====
/- What one block of the kernel computes, at the ideal instance and over real distances: the row of the output block
   whose number is 4 r + k holds the features of the (4 r + k)-th distance of the input block. -/
module

public import proofs.«01_k».proof.Proof.KernelIdealRun
public import proofs.«01_k».proof.Proof.Radial
public import Idealize.ShloMosaic.Lib.Pointwise
public import Idealize.ShloMosaic.Lib.ValueIdx
public import Idealize.ShloMosaic.Lib.Pipeline.Value

@[expose] public section

set_option maxRecDepth 16384

noncomputable section

namespace Cert.KernelIdeal.Strided

open Cert.KernelIdeal Cert.KernelIdeal.Gen Cert.Radial
open Idealize.ShloMosaic Idealize.ShloMosaic.TcCoe

/-! ## The distances, reversed, rotated and spread -/

/-- A sum of products with a row that is one at a single place is the factor at that place. -/
theorem sum_mul_pick {n : ℕ} (f g : Fin n → EReal) (k0 : Fin n) (h1 : g k0 = 1) (h0 : ∀ k, k ≠ k0 → g k = 0) :
    ∑ k, f k * g k = f k0 := by
  rw [Finset.sum_eq_single k0 (fun k _ hk => by rw [h0 k hk, mul_zero]) (fun h => absurd (Finset.mem_univ k0) h), h1, mul_one]

/-- The low parts of finite numbers are zeros, so their products add nothing. -/
theorem sum_low_mul {n : ℕ} (f : Fin n → ℝ) (g : Fin n → EReal) : ∑ k, ((f k : EReal) - (f k : EReal)) * g k = 0 :=
  Finset.sum_eq_zero fun k _ => by rw [← EReal.coe_sub, sub_self, EReal.coe_zero, zero_mul]

/-- What the tables are to hold: the reversal of 128 lanes, -/
def Reverses (x1 : Vec Ideal S128x128 .bf16) : Prop :=
  ∀ k l : Fin 128, x1 (ix2 k l) = if k.val + l.val = 127 then 1 else 0

/-- and the spreading of four distances, over the 32 lanes of each. -/
def Spreads (x2 : Vec Ideal S8x128 .bf16) : Prop :=
  ∀ (k : Fin 8) (l : Fin 128), x2 (ix2 k l) = if l.val / 32 + k.val % 4 = 3 then 1 else 0

/-- A row of finite distances times the reversal table, its high and low parts taken apart, is the row reversed. -/
theorem reversed (D : S200x128.Idx → ℝ) (x1 : Vec Ideal S128x128 .bf16) (h1 : Reverses x1) (b : Fin 200) (q : Fin 128) :
    ∑ k, ((D (ix2 b k) : ℝ) : EReal) * x1 (ix2 k q)
      + ∑ k, (((D (ix2 b k) : ℝ) : EReal) - ((D (ix2 b k) : ℝ) : EReal)) * x1 (ix2 k q)
      = ((D (ix2 b ⟨127 - q.val, by omega⟩) : ℝ) : EReal) := by
  rw [sum_low_mul (fun k => D (ix2 b k)), add_zero]
  have hq : q.val < 128 := q.isLt
  refine sum_mul_pick (fun k => ((D (ix2 b k) : ℝ) : EReal)) (fun k => x1 (ix2 k q)) ⟨127 - q.val, by omega⟩ ?_ fun k hk => ?_
  · exact (h1 _ q).trans (if_pos (show 127 - q.val + q.val = 127 by omega))
  · refine (h1 k q).trans (if_neg fun h => hk (Fin.ext ?_))
    show k.val = 127 - q.val
    omega

/-- Four finite distances of a row, high parts then low parts, times the spreading table: lane `l` gets the distance of
    its group, counted from the last. -/
theorem spread (G : Fin 4 → ℝ) (x2 : Vec Ideal S8x128 .bf16) (h2 : Spreads x2) (l : Fin 128) :
    ∑ x : Fin 4, ((G x : ℝ) : EReal) * x2 (ix2 ⟨x.val, by omega⟩ l)
      + ∑ x : Fin 4, (((G x : ℝ) : EReal) - ((G x : ℝ) : EReal)) * x2 (ix2 ⟨4 + x.val, by omega⟩ l)
      = ((G ⟨3 - l.val / 32, by omega⟩ : ℝ) : EReal) := by
  rw [sum_low_mul G, add_zero]
  have hl : l.val < 128 := l.isLt
  refine sum_mul_pick (fun x => ((G x : ℝ) : EReal)) (fun x : Fin 4 => x2 (ix2 ⟨x.val, by omega⟩ l)) ⟨3 - l.val / 32, by omega⟩ ?_
    fun x hx => ?_
  · exact (h2 _ l).trans (if_pos (show l.val / 32 + (3 - l.val / 32) % 4 = 3 by omega))
  · refine (h2 _ l).trans (if_neg fun h => hx (Fin.ext ?_))
    have h' : l.val / 32 + x.val % 4 = 3 := h
    show x.val = 3 - l.val / 32
    omega

set_option maxHeartbeats 1000000 in
/-- Lane `l` of row `r` holds distance `4 r + l / 32` of the block. -/
theorem spread_apply (D : S200x128.Idx → ℝ) (x0 : Vec Ideal S200x128 .f32) (h0 : ∀ i, x0 i = ((D i : ℝ) : EReal))
    (x1 : Vec Ideal S128x128 .bf16) (h1 : Reverses x1) (x2 : Vec Ideal S8x128 .bf16) (h2 : Spreads x2)
    (r : Fin 6400) (l : Fin 128) :
    k0_pay6 x0 x1 x2 (ix2 r l)
      = ((D (ix2 ⟨r.val / 32, by omega⟩ ⟨4 * (r.val % 32) + l.val / 32, by omega⟩) : ℝ) : EReal) := by
  obtain rfl : x0 = fun i => ((D i : ℝ) : EReal) := funext h0
  pointwise [k0_pay6]
  simp only [reversed D x1 h1]
  refine (spread (fun x => D (ix2 _ ⟨127 - (124 + x.val + 128 - 4 * r.val % 128) % 128, _⟩)) x2 h2 l).trans ?_
  have hl : l.val < 128 := l.isLt
  have e : 127 - (124 + (3 - l.val / 32) + 128 - 4 * r.val % 128) % 128 = 4 * (r.val % 32) + l.val / 32 := by omega
  exact congrArg (fun i : Fin 128 => ((D (ix2 ⟨r.val / 32, by omega⟩ i) : ℝ) : EReal)) (Fin.ext e)

/-! ## The features of a block -/

/-- The offsets at which a whole block is read. -/
theorem zeros : (![0, 0] : Fin 2 → Nat) = fun _ => 0 := funext fun a => by fin_cases a <;> rfl

/-- Lane `l` of row `r`, before the lanes are stored, is the feature of the distance and the centre it holds. -/
theorem payload_apply (D : S200x128.Idx → ℝ) (x0 : Vec Ideal S200x128 .f32) (h0 : ∀ i, x0 i = ((D i : ℝ) : EReal))
    (x1 : Vec Ideal S128x128 .bf16) (h1 : Reverses x1) (x2 : Vec Ideal S8x128 .bf16) (h2 : Spreads x2)
    (C : Fin 128 → ℝ) (x3 : Vec Ideal S1x128 .f32) (h3 : ∀ l : Fin 128, x3 (ix2 0 l) = ((C l : ℝ) : EReal))
    (r : Fin 6400) (l : Fin 128) :
    k0_pay1 (radials x0 x1 x2 x3) (shifted x0 x1 x2) (upper x0 x1 x2) slope (ix2 r l)
      = ((feature (D (ix2 ⟨r.val / 32, by omega⟩ ⟨4 * (r.val % 32) + l.val / 32, by omega⟩)) (C l) : ℝ) : EReal) := by
  have e := spread_apply D x0 h0 x1 h1 x2 h2 r l
  unfold radials shifted upper slope
  rw [View.ld_unit_zero zeros, View.ld_unit_zero zeros, View.ld_unit_zero zeros, View.ld_unit_zero zeros]
  pointwise [k0_pay1, k0_pay7, k0_pay8, k0_pay9]
  rw [e, h3, bits_neg_beta, bits_middle, bits_c5, bits_c3, bits_c1, bits_half, ← EReal.coe_zero]
  simp only [← EReal.coe_sub, ← EReal.coe_mul, ← EReal.coe_add, Ideal.exp_coe]
  refine congrArg Real.toEReal ?_
  unfold feature radial cutoff
  rw [zero_sub]
  ring

/-! ## The output block -/

/-- A store fills no row but those whose number is `k` more than a multiple of four. -/
theorem not_mem_rows (r : Rect S25600x32) (k : ℕ) (hk : k < 4) (h0 : r.off = ![k, 0]) (ht : r.stride = ![4, 1])
    (y : S25600x32.Idx) (hy : (y 0).val % 4 ≠ k) : y ∉ r.set := fun hmem => by
  obtain ⟨j, -, e⟩ := r.mem_set.mp hmem 0
  rw [h0, ht] at e
  have e' : (y 0).val = k + 4 * j := e
  omega

/-- Row `4 r + k` is the `r`-th of its set. -/
theorem rows_emb (r : Rect S25600x32) (k : ℕ) (h0 : r.off = ![k, 0]) (ht : r.stride = ![4, 1])
    (y : S25600x32.Idx) (hy : (y 0).val % 4 = k) (x : r.shape.Idx) (hx0 : (x 0).val = (y 0).val / 4) (hx1 : (x 1).val = (y 1).val) :
    r.emb x = y := by
  refine funext fun a => Fin.ext ?_
  rw [Rect.emb_apply, h0, ht]
  match a with
  | ⟨0, _⟩ => show k + 4 * (x 0).val = (y 0).val; omega
  | ⟨1, _⟩ => show 0 + 1 * (x 1).val = (y 1).val; omega

/-- At a row a store does not fill, the block is what the earlier stores left. -/
theorem canon_skip (r : Rect S25600x32) (w : r.shape.Idx → Elt Ideal .f32) (L : List (View.Piece (Elt Ideal) S25600x32 .f32))
    (y : S25600x32.Idx) (h : y ∉ r.set) : View.canon (⟨r, w⟩ :: L) y = View.canon L y :=
  View.canon_cons_of_not_mem ⟨r, w⟩ L h

/-- The output block of a block of finite distances: row `e` holds the features of the block's `e`-th distance. -/
theorem written_apply (D : S200x128.Idx → ℝ) (x0 : Vec Ideal S200x128 .f32) (h0 : ∀ i, x0 i = ((D i : ℝ) : EReal))
    (x1 : Vec Ideal S128x128 .bf16) (h1 : Reverses x1) (x2 : Vec Ideal S8x128 .bf16) (h2 : Spreads x2)
    (x3 : Vec Ideal S1x128 .f32) (h3 : ∀ l : Fin 128, x3 (ix2 0 l) = ((centre ⟨l.val % 32, by omega⟩ : ℝ) : EReal))
    (y : S25600x32.Idx) :
    written x0 x1 x2 x3 y
      = ((feature (D (ix2 ⟨(y 0).val / 128, by have := (y 0).isLt; have : (y 0).val < 25600 := this; omega⟩ ⟨(y 0).val % 128, by omega⟩))
          (centre (y 1)) : ℝ) : EReal) := by
  have y0 : (y 0).val < 25600 := (y 0).isLt
  have y1 : (y 1).val < 32 := (y 1).isLt
  have key : ∀ k : ℕ, (hk : k < 4) → (y 0).val % 4 = k → ∀ q : Fin 128, q.val = 32 * k + (y 1).val →
      k0_pay1 (radials x0 x1 x2 x3) (shifted x0 x1 x2) (upper x0 x1 x2) slope (ix2 ⟨(y 0).val / 4, by omega⟩ q)
        = ((feature (D (ix2 ⟨(y 0).val / 128, by omega⟩ ⟨(y 0).val % 128, by omega⟩)) (centre (y 1)) : ℝ) : EReal) := by
    intro k hk hm q hq
    rw [payload_apply D x0 h0 x1 h1 x2 h2 (fun l => centre ⟨l.val % 32, by omega⟩) x3 h3]
    have ea : (⟨(y 0).val / 4 / 32, by omega⟩ : Fin 200) = ⟨(y 0).val / 128, by omega⟩ := Fin.ext (by show (y 0).val / 4 / 32 = (y 0).val / 128; omega)
    have eb : (⟨4 * ((y 0).val / 4 % 32) + q.val / 32, by omega⟩ : Fin 128) = ⟨(y 0).val % 128, by omega⟩ :=
      Fin.ext (by show 4 * ((y 0).val / 4 % 32) + q.val / 32 = (y 0).val % 128; omega)
    have ec : (⟨q.val % 32, by omega⟩ : Fin 32) = y 1 := Fin.ext (by show q.val % 32 = (y 1).val; omega)
    show ((feature (D (ix2 (⟨(y 0).val / 4 / 32, _⟩ : Fin 200) (⟨4 * ((y 0).val / 4 % 32) + q.val / 32, _⟩ : Fin 128)))
      (centre ⟨q.val % 32, _⟩) : ℝ) : EReal) = _
    rw [ea, eb, ec]
  unfold written
  have n3 : (y 0).val % 4 ≠ 3 → y ∉ rows3.set := not_mem_rows rows3 3 (by decide) rfl rfl y
  have n2 : (y 0).val % 4 ≠ 2 → y ∉ rows2.set := not_mem_rows rows2 2 (by decide) rfl rfl y
  have n1 : (y 0).val % 4 ≠ 1 → y ∉ rows1.set := not_mem_rows rows1 1 (by decide) rfl rfl y
  rcases (by omega : (y 0).val % 4 = 0 ∨ (y 0).val % 4 = 1 ∨ (y 0).val % 4 = 2 ∨ (y 0).val % 4 = 3) with h | h | h | h
  · rw [canon_skip _ _ _ _ (n3 (by omega)), canon_skip _ _ _ _ (n2 (by omega)),
      canon_skip _ _ _ _ (n1 (by omega))]
    have e := rows_emb rows0 0 rfl rfl y h (ix2 (⟨(y 0).val / 4, by omega⟩ : Fin 6400) (y 1)) rfl rfl
    refine (congrArg (View.canon _) e.symm).trans ((View.canon_cons_emb _ _ _ _).trans ?_)
    pointwise [k0_pay2]
    exact key 0 (by decide) h _ (by dsimp only; omega)
  · rw [canon_skip _ _ _ _ (n3 (by omega)), canon_skip _ _ _ _ (n2 (by omega))]
    have e := rows_emb rows1 1 rfl rfl y h (ix2 (⟨(y 0).val / 4, by omega⟩ : Fin 6400) (y 1)) rfl rfl
    refine (congrArg (View.canon _) e.symm).trans ((View.canon_cons_emb _ _ _ _).trans ?_)
    pointwise [k0_pay3]
    exact key 1 (by decide) h _ (by dsimp only)
  · rw [canon_skip _ _ _ _ (n3 (by omega))]
    have e := rows_emb rows2 2 rfl rfl y h (ix2 (⟨(y 0).val / 4, by omega⟩ : Fin 6400) (y 1)) rfl rfl
    refine (congrArg (View.canon _) e.symm).trans ((View.canon_cons_emb _ _ _ _).trans ?_)
    pointwise [k0_pay4]
    exact key 2 (by decide) h _ (by dsimp only)
  · have e := rows_emb rows3 3 rfl rfl y h (ix2 (⟨(y 0).val / 4, by omega⟩ : Fin 6400) (y 1)) rfl rfl
    refine (congrArg (View.canon _) e.symm).trans ((View.canon_cons_emb _ _ _ _).trans ?_)
    pointwise [k0_pay5]
    exact key 3 (by decide) h _ (by dsimp only)

end Cert.KernelIdeal.Strided

end
-- ==== Proof.KernelTables.lean ====
/- The three constant tables of the kernel, read entry by entry: the matrix that reverses 128 lanes, the matrix that
   spreads each of four distances over 32 lanes, and the row of centres. -/
module

public import proofs.«01_k».proof.KernelIdeal
public import proofs.«01_k».proof.ReferenceIdeal

@[expose] public section

set_option maxRecDepth 16384

namespace Cert.KernelIdeal.Strided

open Cert.KernelIdeal

/-- The first table has a one at (k, l) where k + l = 127 and a zero elsewhere. -/
theorem reversal_word : ∀ k l : Fin 128,
    lit0t (128 * k.val + l.val) = if k.val + l.val = 127 then 0x3F80#16 else 0x0000#16 := by
  decide +kernel

/-- The second table has a one at (k, l) where the lane l is in the group of 32 that holds distance 3 − k mod 4. -/
theorem spread_word : ∀ (k : Fin 8) (l : Fin 128),
    lit1t (128 * k.val + l.val) = if l.val / 32 + k.val % 4 = 3 then 0x3F80#16 else 0x0000#16 := by
  decide +kernel

/-- The third table is the reference's table of 32 centres, four times over. -/
theorem centre_word : ∀ l : Fin 128,
    lit2 l = Cert.ReferenceIdeal.lit0 ⟨l.val % 32, Nat.mod_lt _ (by decide)⟩ := by
  decide +kernel

end Cert.KernelIdeal.Strided
-- ==== Proof.KernelValue.lean ====
/- The kernel's result at the ideal instance, over finite distances: element (e, j) is the feature of distance e and
   centre j. -/
module

public import proofs.«01_k».proof.Proof.KernelBlock
public import proofs.«01_k».proof.Proof.KernelTables
public import Idealize.ShloMosaic.Lib.Pipeline.ValueKit
public import Idealize.ShloMosaic.Lib.IdealHost

@[expose] public section

set_option maxRecDepth 16384

noncomputable section

namespace Cert.KernelIdeal.Strided

open Cert.KernelIdeal Cert.KernelIdeal.Gen Cert.Radial
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## What the windows read -/

/-- The distances reach the kernel in rows of 128. -/
theorem entry_distances (c : Dev nD) (a : Fin 25000) (b : Fin 128) :
    (V m c main_v1 : Vec Ideal S25000x128 .f32) (ix2 a b)
      = m ((c : Thread nD τ).loc main_arg0) (ix2 (⟨128 * a.val + b.val, by omega⟩ : Fin 3200000) (0 : Fin 1)) := by
  have e : V m c main_v1 = shapeCast S25000x128 (shapeCast S3200000 (m ((c : Thread nD τ).loc main_arg0)) shapeCasts_S3200000x1_S3200000)
      shapeCasts_S3200000_S25000x128 := by
    unfold_abbrev_sides
    after_results <;> rfl
  rw [e]
  pointwise
  exact congrArg _ (congrArg (fun a => ix2 a (0 : Fin 1)) (Fin.ext (by show a.val * 128 + b.val = _; dsimp only; omega)))

/-- The second operand is the table that reverses 128 lanes. -/
theorem entry_reversal (c : Dev nD) : Reverses (V m c main_cst) := by
  have e : V m c main_cst = fun i => Ideal.ofBits .bf16 (lit0 (S128x128.rowMajor i)) := by
    unfold_abbrev_sides
    after_results <;> rfl
  intro k l
  rw [e]
  have hr : (S128x128.rowMajor (ix2 k l)).val = 128 * k.val + l.val := by
    rw [Shape.rowMajor_val_two]
    show k.val * 128 + l.val = _
    omega
  show Ideal.ofBits .bf16 (lit0t (S128x128.rowMajor (ix2 k l)).val) = _
  rw [hr, reversal_word k l]
  split_ifs
  · exact Ideal.ofBits_one_bf16
  · exact Ideal.ofBits_zero_bf16

/-- The third operand is the table that spreads four distances over 128 lanes. -/
theorem entry_spread (c : Dev nD) : Spreads (V m c main_cst_0) := by
  have e : V m c main_cst_0 = fun i => Ideal.ofBits .bf16 (lit1 (S8x128.rowMajor i)) := by
    unfold_abbrev_sides
    after_results <;> rfl
  intro k l
  rw [e]
  have hr : (S8x128.rowMajor (ix2 k l)).val = 128 * k.val + l.val := by
    rw [Shape.rowMajor_val_two]
    show k.val * 128 + l.val = _
    omega
  show Ideal.ofBits .bf16 (lit1t (S8x128.rowMajor (ix2 k l)).val) = _
  rw [hr, spread_word k l]
  split_ifs
  · exact Ideal.ofBits_one_bf16
  · exact Ideal.ofBits_zero_bf16

/-- The fourth operand is the 32 centres, four times over. -/
theorem entry_centres (c : Dev nD) (l : Fin 128) :
    (V m c main_cst_1 : Vec Ideal S1x128 .f32) (ix2 (0 : Fin 1) l)
      = ((centre ⟨l.val % 32, Nat.mod_lt _ (by decide)⟩ : ℝ) : EReal) := by
  have e : V m c main_cst_1 = fun i => Ideal.ofBits .f32 (lit2 (S1x128.rowMajor i)) := by
    unfold_abbrev_sides
    after_results <;> rfl
  rw [e]
  have hr : S1x128.rowMajor (ix2 (0 : Fin 1) l) = l := by
    apply Fin.ext
    rw [Shape.rowMajor_val_two]
    show 0 * 128 + l.val = _
    omega
  show Ideal.ofBits .f32 (lit2 (S1x128.rowMajor (ix2 (0 : Fin 1) l))) = _
  rw [hr, centre_word l, bits_centre]

/-! ## The blocks at a grid point -/

/-- The windows' block indices at a point. -/
theorem idx0 : ∀ t : Fin grid0.N, win0_0.index t 0 = t.val ∧ win0_0.index t 1 = 0 := by decide +kernel
/-- The reversal table is one block. -/
theorem idx1 : ∀ t : Fin grid0.N, win0_1.index t 0 = 0 ∧ win0_1.index t 1 = 0 := by decide +kernel
/-- The spreading table is one block. -/
theorem idx2 : ∀ t : Fin grid0.N, win0_2.index t 0 = 0 ∧ win0_2.index t 1 = 0 := by decide +kernel
/-- The centres are one block. -/
theorem idx3 : ∀ t : Fin grid0.N, win0_3.index t 0 = 0 ∧ win0_3.index t 1 = 0 := by decide +kernel
/-- The result's block at a point is the point's own. -/
theorem idx4 : ∀ t : Fin grid0.N, win0_4.index t 0 = t.val ∧ win0_4.index t 1 = 0 := by decide +kernel

/-- A point's block of distances: 25600 of them, in rows of 128. -/
theorem block_distances (c : Dev nD) (t : Fin cfg0.N) (a : Fin 200) (b : Fin 128) (e : Fin 3200000)
    (he : e.val = 25600 * t.val + (128 * a.val + b.val)) :
    (iblk m c 0 t : Vec Ideal S200x128 .f32) (ix2 a b) = m ((c : Thread nD τ).loc main_arg0) (ix2 e (0 : Fin 1)) := by
  have hi := idx0 t
  have ht : t.val < 125 := N_0 ▸ t.isLt
  have key : (iblk m c 0 t : Vec Ideal S200x128 .f32) (ix2 a b)
      = (V m c main_v1 : Vec Ideal S25000x128 .f32) (ix2 (⟨200 * t.val + a.val, by omega⟩ : Fin 25000) b) := by
    unfold iblk
    rw [View.read_apply]
    show (V m c main_v1 : Vec Ideal S25000x128 .f32) _ = _
    congr 1
    funext d
    apply Fin.ext
    match d with
    | ⟨0, _⟩ => show win0_0.index t 0 * 200 + 1 * a.val = 200 * t.val + a.val; rw [hi.1]; omega
    | ⟨1, _⟩ => show win0_0.index t 1 * 128 + 1 * b.val = b.val; rw [hi.2]; omega
  rw [key, entry_distances]
  exact congrArg _ (congrArg (fun a => ix2 a (0 : Fin 1)) (Fin.ext (by dsimp only; omega)))

/-- Every point reads the whole reversal table. -/
theorem block_reversal (c : Dev nD) (t : Fin cfg0.N) : Reverses (iblk m c 1 t) := by
  intro k l
  have hi := idx1 t
  rw [← entry_reversal m c k l]
  unfold iblk
  rw [View.read_apply]
  show (V m c main_cst : Vec Ideal S128x128 .bf16) _ = _
  congr 1
  funext d
  apply Fin.ext
  match d with
  | ⟨0, _⟩ => show win0_1.index t 0 * 128 + 1 * k.val = k.val; rw [hi.1]; omega
  | ⟨1, _⟩ => show win0_1.index t 1 * 128 + 1 * l.val = l.val; rw [hi.2]; omega

/-- Every point reads the whole spreading table. -/
theorem block_spread (c : Dev nD) (t : Fin cfg0.N) : Spreads (iblk m c 2 t) := by
  intro k l
  have hi := idx2 t
  rw [← entry_spread m c k l]
  unfold iblk
  rw [View.read_apply]
  show (V m c main_cst_0 : Vec Ideal S8x128 .bf16) _ = _
  congr 1
  funext d
  apply Fin.ext
  match d with
  | ⟨0, _⟩ => show win0_2.index t 0 * 8 + 1 * k.val = k.val; rw [hi.1]; omega
  | ⟨1, _⟩ => show win0_2.index t 1 * 128 + 1 * l.val = l.val; rw [hi.2]; omega

/-- Every point reads all the centres. -/
theorem block_centres (c : Dev nD) (t : Fin cfg0.N) (l : Fin 128) :
    (iblk m c 3 t : Vec Ideal S1x128 .f32) (ix2 (0 : Fin 1) l)
      = ((centre ⟨l.val % 32, Nat.mod_lt _ (by decide)⟩ : ℝ) : EReal) := by
  have hi := idx3 t
  rw [← entry_centres m c l]
  unfold iblk
  rw [View.read_apply]
  show (V m c main_cst_1 : Vec Ideal S1x128 .f32) _ = _
  congr 1
  funext d
  apply Fin.ext
  match d with
  | ⟨0, _⟩ => show win0_3.index t 0 * 1 + 1 * 0 = 0; rw [hi.1]
  | ⟨1, _⟩ => show win0_3.index t 1 * 128 + 1 * l.val = l.val; rw [hi.2]; omega

/-! ## The result array -/

/-- The features of an array of finite distances. -/
def features (D : S3200000x1.Idx → ℝ) : Vec Ideal S3200000x32 .f32 :=
  fun i => ((feature (D (ix2 (i 0) (0 : Fin 1))) (centre (i 1)) : ℝ) : EReal)

/-- The points' blocks fill the result. -/
theorem out_covers : (cfg0.win 4).Covers := by decide +kernel

/-- Over finite distances the result array ends holding their features. -/
theorem result_array (c : Dev nD) (D : S3200000x1.Idx → ℝ)
    (hD : ∀ i, m ((c : Thread nD τ).loc main_arg0) i = ((D i : ℝ) : EReal)) :
    (dats m 0 c).arrAt 4 cfg0.N = features D := by
  refine Dat.arrAt_eq_of_covers (dat := dats m 0 c) 4 (features D) out_covers fun t _ y => ?_
  have hi := idx4 t
  have ht : t.val < 125 := N_0 ▸ t.isLt
  have hx : ((cfg0.win 4).blk t).view.emb y
      = (ix2 (⟨25600 * t.val + (y 0).val, by have : (y 0).val < 25600 := (y 0).isLt; omega⟩ : Fin 3200000) (y 1 : Fin 32) : S3200000x32.Idx) := by
    funext d
    apply Fin.ext
    match d with
    | ⟨0, _⟩ => show win0_4.index t 0 * 25600 + 1 * (y 0).val = 25600 * t.val + (y 0).val; rw [hi.1]; omega
    | ⟨1, _⟩ => show win0_4.index t 1 * 32 + 1 * (y 1).val = (y 1).val; rw [hi.2]; omega
  have hy : (y 0).val < 25600 := (y 0).isLt
  rw [hx]
  show (dats m 0 c).after 4 t y = _
  rw [after4]
  refine (written_apply
    (fun i : S200x128.Idx => D (ix2 (⟨25600 * t.val + (128 * (i 0).val + (i 1).val), by
      have h0 : (i 0).val < 200 := (i 0).isLt
      have h1 : (i 1).val < 128 := (i 1).isLt
      omega⟩ : Fin 3200000) (0 : Fin 1)))
    (iblk m c 0 t) (fun i => ?_) (iblk m c 1 t) (block_reversal m c t) (iblk m c 2 t) (block_spread m c t)
    (iblk m c 3 t) (block_centres m c t) y).trans ?_
  · idx_vars i
    exact (block_distances m c t _ _ _ rfl).trans (hD _)
  · have he : (⟨25600 * t.val + (128 * ((y 0).val / 128) + (y 0).val % 128), by omega⟩ : Fin 3200000)
        = ⟨25600 * t.val + (y 0).val, by omega⟩ := Fin.ext (by dsimp only; omega)
    exact congrArg (fun e => ((feature (D (ix2 e (0 : Fin 1))) (centre (y 1)) : ℝ) : EReal)) he

/-- Every run of the kernel over finite distances ends with their features in the result, the arguments unchanged. -/
theorem run_value (D : Dev nD → S3200000x1.Idx → ℝ)
    (hD : ∀ (c : Dev nD) i, m ((c : Thread nD τ).loc main_arg0) i = ((D c i : ℝ) : EReal)) :
    θ_run defs (onTc (τ := τ) main) (s₀ m ρ) (fun r => ∀ c : Dev nD,
      r.2.mem ((c : Thread nD τ).loc main_v2) = features (D c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun r h c =>
    ⟨((h.1 c).1 4).trans (result_array m c (D c) (hD c)),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩)
    (runs m ρ)

end Cert.KernelIdeal.Strided

end
-- ==== Proof.Comparison.lean ====
/- The preconditions read at an element, and the reference's result under them. -/
module

public import proofs.«01_k».proof.Defs
public import proofs.«01_k».proof.Proof.KernelValue
public import proofs.«01_k».proof.Proof.Gen.ReferenceIdeal
public import proofs.«01_k».proof.Proof.Gen.ReferenceIdeal.Run
public import Idealize.ShloMosaic.Lib.Pointwise
public import Idealize.ShloMosaic.Lib.Quiescent

@[expose] public section

set_option maxRecDepth 16384

noncomputable section

namespace Cert.Radial

open Idealize.ShloMosaic Idealize.ShloMosaic.TcCoe Idealize.SL.Sem
open Cert.ReferenceIdeal (S3200000x1 S3200000x32 S32 S_)

/-! ## The preconditions at an element -/

/-- The shape facts of `below_the_cutoff`. -/
instance facts_below : Cert.Pre_below_the_cutoff.Facts := ⟨by decide⟩

/-- A conjunction of two decided facts is one exactly where both hold. -/
theorem both_of_andi {p q : Prop} [Decidable p] [Decidable q]
    (h : IntOp.andi (BitVec.ofBool (decide p)) (BitVec.ofBool (decide q)) = 1#1) : p ∧ q := by
  by_cases hp : p <;> by_cases hq : q <;> simp [hp, hq, IntOp.andi] at h ⊢

/-- An extended real strictly between −∞ and a real is a real. -/
theorem real_of_lt {x : EReal} {b : ℝ} (h0 : ⊥ < x) (h1 : x < (b : EReal)) : ∃ d : ℝ, x = (d : EReal) ∧ d < b := by
  induction x with
  | bot => exact absurd h0 (lt_irrefl _)
  | top => exact absurd h1 (by simp)
  | coe d => exact ⟨d, rfl, EReal.coe_lt_coe_iff.1 h1⟩

/-- The word of −∞. -/
theorem bits_minus_infinity : Ideal.ofBits .f32 0xFF800000#32 = ⊥ := by
  show Ideal.ieee 8 23 0xFF800000#32 = ⊥
  unfold Ideal.ieee
  simp

/-- Under `below_the_cutoff` every distance is a real below 5. -/
theorem below_at (x0 : Vec Ideal S3200000x1 .f32) (x1 x2 x3)
    (h : Cert.Pre_below_the_cutoff.fn (F := Ideal) x0 x1 x2 x3 = fun _ => 1#1) (i : S3200000x1.Idx) :
    ∃ d : ℝ, x0 i = (d : EReal) ∧ d < 5 := by
  have hi := congrFun h i
  idx_vars i
  revert hi
  pointwise [Cert.Pre_below_the_cutoff.fn]
  intro hi
  obtain ⟨h0, h1⟩ := both_of_andi hi
  rw [bits_minus_infinity] at h0
  rw [bits_five] at h1
  exact real_of_lt h0 h1

/-! ## The reference -/

/-- The mask's number where it is set. -/
theorem mask_one : (FloatOps.uitofp .f32 (BitVec.ofBool true) : Ideal .f32) = (1 : EReal) := by
  show (((BitVec.ofBool true).toNat : ℝ) : EReal) = 1
  simp

/-- Every run of the reference leaves the arguments unchanged and every semaphore at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1)
        ∧ r.2.mem (c.tc.loc Cert.ReferenceIdeal.main_arg2) = m (c.tc.loc Cert.ReferenceIdeal.main_arg2)
        ∧ r.2.mem (c.tc.loc Cert.ReferenceIdeal.main_arg3) = m (c.tc.loc Cert.ReferenceIdeal.main_arg3))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

/-- Every run of the reference over finite distances below 5 ends with their features in the result, the arguments
    unchanged. -/
theorem reference_value (m : (ℓ : Loc Cert.ReferenceIdeal.nD Cert.ReferenceIdeal.τ Cert.ReferenceIdeal.sig) → Buf (Elt Ideal) ℓ)
    (ρ : Dev Cert.ReferenceIdeal.nD → PrngReg) (D : Dev Cert.ReferenceIdeal.nD → S3200000x1.Idx → ℝ)
    (hD : ∀ (c : Dev Cert.ReferenceIdeal.nD) i, m (c.tc.loc Cert.ReferenceIdeal.main_arg0) i = ((D c i : ℝ) : EReal))
    (h5 : ∀ c i, D c i < 5) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem (c.tc.loc Cert.ReferenceIdeal.main_v41) = Cert.KernelIdeal.Strided.features (D c)
        ∧ r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1)
        ∧ r.2.mem (c.tc.loc Cert.ReferenceIdeal.main_arg2) = m (c.tc.loc Cert.ReferenceIdeal.main_arg2)
        ∧ r.2.mem (c.tc.loc Cert.ReferenceIdeal.main_arg3) = m (c.tc.loc Cert.ReferenceIdeal.main_arg3)) := by
  refine (θ_run Cert.ReferenceIdeal.defs _ _).mono (fun r h c => ⟨(h c).1.trans ?_, (h c).2⟩)
    (Cert.ReferenceIdeal.Value.run (F := Ideal) m ρ)
  funext i
  idx_vars i
  pointwise
  rw [hD]
  have hw : S32.rowMajor (ix1 i1) = i1 := Fin.ext (Shape.rowMajor_val_one _)
  rw [hw, bits_centre, bits_beta, bits_half, bits_two_c1, bits_two_c3, bits_two_c5, bits_middle, bits_five,
    decide_eq_true (EReal.coe_lt_coe_iff.2 (h5 c _)), mask_one, mul_one, show (1 : EReal) = ((1 : ℝ) : EReal) from rfl]
  simp only [← EReal.coe_neg, Ideal.exp_coe, ← EReal.coe_sub, ← EReal.coe_mul, ← EReal.coe_add]
  refine congrArg Real.toEReal ?_
  show _ = feature (D c (ix2 i0 0)) (centre i1)
  unfold feature radial cutoff
  ring

end Cert.Radial

end
-- ==== Proof.Cosine.lean ====
/- How far the polynomial cutoff is from half of one plus the cosine, over the distances from 0 to 5: at most 83/10⁶. -/
module

public import proofs.«01_k».proof.Proof.Radial
public import Mathlib.Analysis.Complex.Exponential

@[expose] public section

noncomputable section

namespace Cert.Radial

/-! ## Lower bounds of a polynomial on a short interval -/

/-- The polynomial with these coefficients, lowest first. -/
def poly : List ℚ → ℝ → ℝ
  | [], _ => 0
  | c :: p, x => c + x * poly p x

/-- The coefficients of `c + (x + a) · s`. -/
def step (a : ℚ) : ℚ → List ℚ → List ℚ
  | c, [] => [c]
  | c, b :: s => (c + a * b) :: step a b s

/-- That list is the coefficients of what it says. -/
theorem poly_step (a : ℚ) (s : List ℚ) (c : ℚ) (x : ℝ) : poly (step a c s) x = c + (x + a) * poly s x := by
  induction s generalizing c with
  | nil => simp [step, poly]
  | cons b s ih => simp only [step, poly, ih]; push_cast; ring

/-- The coefficients of the polynomial around `a`. -/
def around (a : ℚ) : List ℚ → List ℚ
  | [] => []
  | c :: p => step a c (around a p)

/-- The polynomial around `a` is the polynomial moved by `a`. -/
theorem poly_around (a : ℚ) (p : List ℚ) (x : ℝ) : poly (around a p) x = poly p (x + a) := by
  induction p with
  | nil => rfl
  | cons c p ih => simp only [around, poly_step, ih, poly]

/-- A lower bound of the polynomial on the interval from 0 to `w`. -/
def lower (w : ℚ) : List ℚ → ℚ
  | [] => 0
  | c :: p => c + min 0 (w * lower w p)

/-- It is a lower bound. -/
theorem lower_le (w : ℚ) (p : List ℚ) (h : ℝ) (h0 : 0 ≤ h) (hw : h ≤ w) : (lower w p : ℝ) ≤ poly p h := by
  induction p with
  | nil => simp [lower, poly]
  | cons c p ih =>
    simp only [lower, poly]
    push_cast
    have hw0 : (0 : ℝ) ≤ w := h0.trans hw
    have key : min 0 ((w : ℝ) * (lower w p : ℝ)) ≤ h * poly p h := by
      by_cases hp : 0 ≤ poly p h
      · exact (min_le_left _ _).trans (mul_nonneg h0 hp)
      · refine (min_le_right _ _).trans ?_
        nlinarith [mul_le_mul_of_nonneg_left ih hw0]
    linarith

/-- A polynomial whose lower bound is nonnegative on each of 32 equal parts is nonnegative from 0 to 5/2. -/
theorem poly_nonneg (p : List ℚ) (hp : ∀ k : Fin 32, 0 ≤ lower (5 / 64) (around (5 / 64 * k.val) p)) (x : ℝ)
    (h0 : 0 ≤ x) (h1 : x ≤ 5 / 2) : 0 ≤ poly p x := by
  obtain ⟨k, hk0, hk1⟩ : ∃ k : Fin 32, 5 / 64 * (k.val : ℝ) ≤ x ∧ x ≤ 5 / 64 * (k.val : ℝ) + 5 / 64 := by
    by_cases hx : x * (64 / 5) < 32
    · have hf := Nat.floor_le (show 0 ≤ x * (64 / 5) by positivity)
      have hl := Nat.lt_floor_add_one (x * (64 / 5))
      refine ⟨⟨⌊x * (64 / 5)⌋₊, (Nat.floor_lt (by positivity)).2 (by exact_mod_cast hx)⟩, ?_, ?_⟩ <;> dsimp only <;> linarith
    · exact ⟨31, by norm_num; linarith, by norm_num; linarith⟩
  have hb := lower_le (5 / 64) (around (5 / 64 * k.val) p) (x - 5 / 64 * k.val) (by linarith) (by push_cast; linarith)
  rw [poly_around] at hb
  have e : x - 5 / 64 * (k.val : ℝ) + ((5 / 64 * k.val : ℚ) : ℝ) = x := by push_cast; ring
  rw [e] at hb
  exact le_trans (by exact_mod_cast hp k) hb

/-! ## Taylor polynomials -/

/-- The sine's Taylor polynomial of degree 11. -/
def taylor (x : ℝ) : ℝ := x - x ^ 3 / 6 + x ^ 5 / 120 - x ^ 7 / 5040 + x ^ 9 / 362880 - x ^ 11 / 39916800

/-- The cosine's Taylor polynomial of degree 10. -/
def taylorCos (x : ℝ) : ℝ := 1 - x ^ 2 / 2 + x ^ 4 / 24 - x ^ 6 / 720 + x ^ 8 / 40320 - x ^ 10 / 3628800

/-- The two are the parts of the exponential's. -/
theorem exp_terms (x : ℝ) : ∑ k ∈ Finset.range 12, ((x : ℂ) * Complex.I) ^ k / (k.factorial : ℂ)
    = ((taylorCos x : ℝ) : ℂ) + ((taylor x : ℝ) : ℂ) * Complex.I := by
  have i2 : Complex.I ^ 2 = -1 := Complex.I_sq
  have i3 : Complex.I ^ 3 = -Complex.I := by rw [pow_succ, i2]; ring
  have i4 : Complex.I ^ 4 = 1 := Complex.I_pow_four
  have i5 : Complex.I ^ 5 = Complex.I := by rw [pow_succ, i4]; ring
  have i6 : Complex.I ^ 6 = -1 := by rw [show (6 : ℕ) = 4 + 2 from rfl, pow_add, i4, i2]; ring
  have i7 : Complex.I ^ 7 = -Complex.I := by rw [pow_succ, i6]; ring
  have i8 : Complex.I ^ 8 = 1 := by rw [show (8 : ℕ) = 4 + 4 from rfl, pow_add, i4]; ring
  have i9 : Complex.I ^ 9 = Complex.I := by rw [pow_succ, i8]; ring
  have i10 : Complex.I ^ 10 = -1 := by rw [show (10 : ℕ) = 8 + 2 from rfl, pow_add, i8, i2]; ring
  have i11 : Complex.I ^ 11 = -Complex.I := by rw [pow_succ, i10]; ring
  simp only [Finset.sum_range_succ, Finset.sum_range_zero, Nat.factorial, mul_pow, i2, i3, i4, i5, i6, i7, i8, i9, i10, i11]
  unfold taylor taylorCos
  push_cast
  ring

/-- Up to 11/7 they are within 10⁻⁶ of the sine and the cosine. -/
theorem taylor_near (x : ℝ) (hx : |x| ≤ 11 / 7) :
    |Real.sin x - taylor x| ≤ 1 / 1000000 ∧ |Real.cos x - taylorCos x| ≤ 1 / 1000000 := by
  have hn : ‖(x : ℂ) * Complex.I‖ = |x| := by simp
  have hb := Complex.exp_bound' (x := (x : ℂ) * Complex.I) (n := 12) (by
    rw [hn]; norm_num; linarith)
  have hd : Complex.exp ((x : ℂ) * Complex.I) - ∑ k ∈ Finset.range 12, ((x : ℂ) * Complex.I) ^ k / (k.factorial : ℂ)
      = ((Real.cos x - taylorCos x : ℝ) : ℂ) + ((Real.sin x - taylor x : ℝ) : ℂ) * Complex.I := by
    rw [exp_terms, Complex.exp_mul_I, ← Complex.ofReal_cos, ← Complex.ofReal_sin]
    push_cast
    ring
  rw [hd, hn] at hb
  have h12 : |x| ^ 12 ≤ (11 / 7) ^ 12 := pow_le_pow_left₀ (abs_nonneg x) hx 12
  have hf : ((12 : ℕ).factorial : ℝ) = 479001600 := by norm_num [Nat.factorial]
  rw [hf] at hb
  have hs : |x| ^ 12 / 479001600 * 2 ≤ 1 / 1000000 := by
    norm_num at h12 ⊢
    linarith
  have hi := Complex.abs_im_le_norm (((Real.cos x - taylorCos x : ℝ) : ℂ) + ((Real.sin x - taylor x : ℝ) : ℂ) * Complex.I)
  have hre := Complex.abs_re_le_norm (((Real.cos x - taylorCos x : ℝ) : ℂ) + ((Real.sin x - taylor x : ℝ) : ℂ) * Complex.I)
  have eim : (((Real.cos x - taylorCos x : ℝ) : ℂ) + ((Real.sin x - taylor x : ℝ) : ℂ) * Complex.I).im
      = Real.sin x - taylor x := by
    simp only [Complex.add_im, Complex.ofReal_im, Complex.im_ofReal_mul, Complex.I_im, mul_one, zero_add]
  have ere : (((Real.cos x - taylorCos x : ℝ) : ℂ) + ((Real.sin x - taylor x : ℝ) : ℂ) * Complex.I).re
      = Real.cos x - taylorCos x := by
    simp only [Complex.add_re, Complex.ofReal_re, Complex.re_ofReal_mul, Complex.I_re, mul_zero, add_zero]
  rw [ere] at hre
  rw [eim] at hi
  exact ⟨hi.trans (hb.trans hs), hre.trans (hb.trans hs)⟩

/-! ## The cutoff -/

/-- π rounded to binary32. -/
def piWord : ℝ := 13176795 / 4194304

/-- The cosine cutoff, at π rounded. -/
def cosineCutoff (d : ℝ) : ℝ := 1 / 2 * (Real.cos (d * piWord / 5) + 1)

/-- Half of rounded π is nearly where the cosine is 0 and the sine 1. -/
theorem quarter : |Real.cos (piWord / 2)| ≤ 2 / 1000000 ∧ |Real.sin (piWord / 2) - 1| ≤ 2 / 1000000 := by
  obtain ⟨hs, hc⟩ := taylor_near (piWord / 2) (by unfold piWord; norm_num)
  unfold taylor piWord at hs
  unfold taylorCos piWord at hc
  unfold piWord
  rw [abs_le] at hs hc ⊢
  rw [abs_le]
  norm_num at hs hc ⊢
  refine ⟨⟨?_, ?_⟩, ?_, ?_⟩ <;> linarith

/-- Rounded π over 5. -/
def rate : ℚ := 13176795 / 20971520

/-- The coefficients of the cutoff's polynomial plus half the sine's, in `d − 5/2`, times `s`, plus a constant `b`. -/
def gap (b s : ℚ) : List ℚ :=
  [b, s * (-5269457 / 16777216 + rate / 2), 0, s * (11039953 / 536870912 - rate ^ 3 / 12), 0,
    s * (-12723345 / 34359738368 + rate ^ 5 / 240), 0, s * (-rate ^ 7 / 10080), 0, s * (rate ^ 9 / 725760), 0,
    s * (-rate ^ 11 / 79833600)]

/-- Those are its coefficients. -/
theorem poly_gap (b s : ℚ) (z : ℝ) :
    poly (gap b s) z = b + s * (c1 * z + c3 * z ^ 3 + c5 * z ^ 5 + taylor (rate * z) / 2) := by
  simp only [gap, poly, c1, c3, c5, taylor]
  push_cast
  ring

/-- With 80/10⁶ for the constant, both signs are nonnegative on every part. -/
theorem gap_bounds (s : ℚ) (hs : s = 1 ∨ s = -1) :
    ∀ k : Fin 32, 0 ≤ lower (5 / 64) (around (5 / 64 * k.val) (gap (80 / 1000000) s)) := by
  rcases hs with rfl | rfl
  · decide +kernel
  · decide +kernel

/-- The polynomial and half the sine's Taylor polynomial nearly cancel. -/
theorem gap_small (z : ℝ) (hz : |z| ≤ 5 / 2) :
    |c1 * z + c3 * z ^ 3 + c5 * z ^ 5 + taylor (rate * z) / 2| ≤ 80 / 1000000 := by
  have hpos : ∀ y : ℝ, 0 ≤ y → y ≤ 5 / 2 → |c1 * y + c3 * y ^ 3 + c5 * y ^ 5 + taylor (rate * y) / 2| ≤ 80 / 1000000 := by
    intro y h0 h1
    have hp := poly_nonneg _ (gap_bounds 1 (Or.inl rfl)) y h0 h1
    have hn := poly_nonneg _ (gap_bounds (-1) (Or.inr rfl)) y h0 h1
    rw [poly_gap] at hp hn
    push_cast at hp hn
    rw [abs_le]
    constructor <;> linarith
  rcases le_total 0 z with h | h
  · exact hpos z h ((le_abs_self z).trans hz)
  · have e := hpos (-z) (by linarith) ((neg_le_abs z).trans hz)
    rw [show c1 * -z + c3 * (-z) ^ 3 + c5 * (-z) ^ 5 + taylor (rate * -z) / 2
      = -(c1 * z + c3 * z ^ 3 + c5 * z ^ 5 + taylor (rate * z) / 2) by unfold taylor; ring, abs_neg] at e
    exact e

/-- From 0 to 5 the polynomial cutoff is within 83/10⁶ of the cosine cutoff. -/
theorem cutoff_near (d : ℝ) (h0 : 0 ≤ d) (h5 : d ≤ 5) : |cutoff d - cosineCutoff d| ≤ 83 / 1000000 := by
  have hz : |d - 5 / 2| ≤ 5 / 2 := abs_le.2 ⟨by linarith, by linarith⟩
  have hr : |(rate : ℝ) * (d - 5 / 2)| ≤ 11 / 7 := by
    rw [abs_mul]
    have : |(rate : ℝ)| = 13176795 / 20971520 := by unfold rate; push_cast; rw [abs_of_pos (by norm_num)]
    rw [this]
    linarith
  have hg := gap_small (d - 5 / 2) hz
  have ht := (taylor_near _ hr).1
  obtain ⟨hqc, hqs⟩ := quarter
  have hc : |Real.cos (d * piWord / 5) + Real.sin (rate * (d - 5 / 2))| ≤ 4 / 1000000 := by
    have e : d * piWord / 5 = rate * (d - 5 / 2) + piWord / 2 := by unfold rate piWord; push_cast; ring
    rw [e, Real.cos_add]
    have h1 : |Real.cos (rate * (d - 5 / 2)) * Real.cos (piWord / 2)| ≤ 2 / 1000000 := by
      rw [abs_mul]
      exact (mul_le_of_le_one_left (abs_nonneg _) (Real.abs_cos_le_one _)).trans hqc
    have h2 : |Real.sin (rate * (d - 5 / 2)) * (Real.sin (piWord / 2) - 1)| ≤ 2 / 1000000 := by
      rw [abs_mul]
      exact (mul_le_of_le_one_left (abs_nonneg _) (Real.abs_sin_le_one _)).trans hqs
    rw [abs_le] at h1 h2 ⊢
    constructor <;> linarith
  unfold cutoff cosineCutoff
  rw [abs_le] at hg ht hc ⊢
  constructor <;> linarith

end Cert.Radial

end
-- ==== Proof.NearCosine.lean ====
/- The kernel's features are within 1/10000 of those of the reference's own cosine and unrounded centres. -/
module

public import proofs.«01_k».proof.Defs
public import proofs.«01_k».proof.Proof.Comparison
public import proofs.«01_k».proof.Proof.Cosine

@[expose] public section

set_option maxRecDepth 16384

noncomputable section

namespace Cert.Radial

open Idealize.ShloMosaic Idealize.ShloMosaic.TcCoe Idealize.SL.Sem
open Cert.ReferenceIdeal (S3200000x1 S3200000x32 S32 S_)

/-! ## The precondition -/

/-- The shape facts of `in_range`. -/
instance facts_range : Cert.Pre_in_range.Facts := ⟨by decide⟩
/-- The shape facts of `near_the_cosine`. -/
instance facts_near : Cert.Post_near_the_cosine.Facts := by
  constructor <;> decide
/-- Under `in_range` every distance is a real from 0 to 5. -/
theorem range_at (x0 : Vec Ideal S3200000x1 .f32) (x1 x2 x3)
    (h : Cert.Pre_in_range.fn (F := Ideal) x0 x1 x2 x3 = fun _ => 1#1) (i : S3200000x1.Idx) :
    ∃ d : ℝ, x0 i = (d : EReal) ∧ 0 ≤ d ∧ d ≤ 5 := by
  have hi := congrFun h i
  idx_vars i
  revert hi
  pointwise [Cert.Pre_in_range.fn]
  intro hi
  obtain ⟨h0, h1⟩ := both_of_andi hi
  rw [bits_five] at h1
  obtain ⟨d, hd, -⟩ := real_of_lt (lt_of_lt_of_le (EReal.bot_lt_coe 0) h0)
    (lt_of_le_of_lt h1 (EReal.coe_lt_coe_iff.2 (by norm_num : (5 : ℝ) < 6)))
  rw [hd] at h0 h1
  exact ⟨d, hd, EReal.coe_nonneg.1 h0, EReal.coe_le_coe_iff.1 h1⟩

/-! ## The centres -/

/-- exp(−5) rounded to binary32. -/
def start : ℚ := 14469631 / 2147483648

/-- The centres before their rounding: equally spaced from `start` to 1. -/
def spaced (j : Fin 32) : ℚ := start * (1 - j.val / 31) + j.val / 31

/-- Each centre is its rounding: within 3/10⁸, and both lie between 0 and 1. -/
theorem centre_rational : ∀ j : Fin 32, |wordVal (Cert.ReferenceIdeal.lit0 j) - spaced j| ≤ 3 / 100000000
    ∧ 0 ≤ wordVal (Cert.ReferenceIdeal.lit0 j) ∧ wordVal (Cert.ReferenceIdeal.lit0 j) ≤ 1
    ∧ 0 ≤ spaced j ∧ spaced j ≤ 1 := by
  decide +kernel

/-- The same over the reals. -/
theorem centre_near (j : Fin 32) : |centre j - (spaced j : ℝ)| ≤ 3 / 100000000
    ∧ 0 ≤ centre j ∧ centre j ≤ 1 ∧ 0 ≤ (spaced j : ℝ) ∧ (spaced j : ℝ) ≤ 1 := by
  obtain ⟨h, h0, h1, s0, s1⟩ := centre_rational j
  refine ⟨?_, by unfold centre; exact_mod_cast h0, by unfold centre; exact_mod_cast h1, by exact_mod_cast s0, by exact_mod_cast s1⟩
  have := (Rat.cast_le (K := ℝ)).2 h
  push_cast at this
  exact this

/-! ## The features -/

/-- The decreasing exponential moves values no further apart. -/
theorem exp_neg_close (a b : ℝ) (ha : 0 ≤ a) (hb : 0 ≤ b) : |Real.exp (-a) - Real.exp (-b)| ≤ |a - b| := by
  have one : ∀ x y : ℝ, 0 ≤ x → x ≤ y → |Real.exp (-x) - Real.exp (-y)| ≤ |x - y| := by
    intro x y hx hxy
    have h1 : Real.exp (-y) = Real.exp (-x) * Real.exp (-(y - x)) := by rw [← Real.exp_add]; congr 1; ring
    have h2 := Real.add_one_le_exp (-(y - x))
    have h3 : Real.exp (-x) ≤ 1 := Real.exp_le_one_iff.2 (by linarith)
    have h4 := Real.exp_pos (-x)
    have h5 : Real.exp (-(y - x)) ≤ 1 := Real.exp_le_one_iff.2 (by linarith)
    rw [h1, abs_sub_comm x y, abs_of_nonneg (by linarith : 0 ≤ y - x), abs_of_nonneg (by nlinarith)]
    nlinarith
  rcases le_total a b with h | h
  · exact one a b ha h
  · rw [abs_sub_comm, abs_sub_comm a b]; exact one b a hb h

/-- The radial functions of two centres 3/10⁸ apart are within 16/10⁶. -/
theorem radial_close (d c c' : ℝ) (hd : 0 ≤ d) (h : |c - c'| ≤ 3 / 100000000) (h0 : 0 ≤ c) (h1 : c ≤ 1) (h0' : 0 ≤ c')
    (h1' : c' ≤ 1) : |radial d c - radial d c'| ≤ 16 / 1000000 := by
  have hb : 0 ≤ beta := by unfold beta; norm_num
  have ht0 := Real.exp_pos (-d)
  have ht1 : Real.exp (-d) ≤ 1 := Real.exp_le_one_iff.2 (by linarith)
  unfold radial
  rw [neg_mul, neg_mul]
  refine (exp_neg_close _ _ (mul_nonneg hb (mul_self_nonneg _)) (mul_nonneg hb (mul_self_nonneg _))).trans ?_
  rw [show beta * ((Real.exp (-d) - c) * (Real.exp (-d) - c)) - beta * ((Real.exp (-d) - c') * (Real.exp (-d) - c'))
      = beta * ((c - c') * (c + c' - 2 * Real.exp (-d))) by ring, abs_mul, abs_mul, abs_of_nonneg hb]
  have h2 : |c + c' - 2 * Real.exp (-d)| ≤ 2 := abs_le.2 ⟨by linarith, by linarith⟩
  have h3 : |c - c'| * |c + c' - 2 * Real.exp (-d)| ≤ 3 / 100000000 * 2 :=
    mul_le_mul h h2 (abs_nonneg _) (by norm_num)
  have h4 := mul_le_mul_of_nonneg_left h3 hb
  refine h4.trans ?_
  unfold beta
  norm_num

/-- From 0 to 5 a feature is within 99/10⁶ of the one with the cosine and the unrounded centre. -/
theorem feature_near (d : ℝ) (h0 : 0 ≤ d) (h5 : d ≤ 5) (j : Fin 32) :
    |feature d (centre j) - radial d (spaced j) * cosineCutoff d| ≤ 99 / 1000000 := by
  obtain ⟨hc, c0, c1, s0, s1⟩ := centre_near j
  have hr := radial_close d _ _ h0 hc c0 c1 s0 s1
  have hk := cutoff_near d h0 h5
  have hrad : |radial d (centre j)| ≤ 1 := by
    unfold radial
    rw [abs_of_pos (Real.exp_pos _), Real.exp_le_one_iff]
    have : 0 ≤ beta := by unfold beta; norm_num
    nlinarith [mul_nonneg this (mul_self_nonneg (Real.exp (-d) - centre j))]
  have hcos : |cosineCutoff d| ≤ 1 := by
    unfold cosineCutoff
    rw [abs_le]
    constructor <;> linarith [Real.neg_one_le_cos (d * piWord / 5), Real.cos_le_one (d * piWord / 5)]
  unfold feature
  rw [show radial d (centre j) * cutoff d - radial d (spaced j) * cosineCutoff d
    = radial d (centre j) * (cutoff d - cosineCutoff d) + (radial d (centre j) - radial d (spaced j)) * cosineCutoff d by ring]
  have e1 : |radial d (centre j) * (cutoff d - cosineCutoff d)| ≤ 83 / 1000000 := by
    rw [abs_mul]; exact (mul_le_of_le_one_left (abs_nonneg _) hrad).trans hk
  have e2 : |(radial d (centre j) - radial d (spaced j)) * cosineCutoff d| ≤ 16 / 1000000 := by
    rw [abs_mul]; exact (mul_le_of_le_one_right (abs_nonneg _) hcos).trans hr
  refine (abs_add_le _ _).trans ?_
  linarith

/-- The mask's number: 1 below the cutoff, 0 at it. -/
def mask (d : ℝ) : ℝ := if d < 5 then 1 else 0

/-- From 0 to 5 a feature is within 995/10⁷ of the one with the masked cosine and the unrounded centre. -/
theorem feature_near_masked (d : ℝ) (h0 : 0 ≤ d) (h5 : d ≤ 5) (j : Fin 32) :
    |feature d (centre j) - radial d (spaced j) * (cosineCutoff d * mask d)| ≤ 995 / 10000000 := by
  have hn := feature_near d h0 h5 j
  unfold mask
  split_ifs with h
  · rw [mul_one]; exact hn.trans (by norm_num)
  · have hd : d = 5 := le_antisymm h5 (not_lt.1 h)
    subst hd
    have hr0 : 0 ≤ radial 5 (spaced j) := (Real.exp_pos _).le
    have hr1 : radial 5 (spaced j) ≤ 1 := by
      unfold radial
      rw [Real.exp_le_one_iff]
      have : 0 ≤ beta := by unfold beta; norm_num
      nlinarith [mul_nonneg this (mul_self_nonneg (Real.exp (-5) - (spaced j : ℝ)))]
    have hq := quarter.1
    have hsq : Real.cos (piWord / 2) ^ 2 ≤ (2 / 1000000) ^ 2 := by
      rw [← sq_abs]; exact pow_le_pow_left₀ (abs_nonneg _) hq 2
    have hc : cosineCutoff 5 = Real.cos (piWord / 2) ^ 2 := by
      unfold cosineCutoff
      rw [Real.cos_sq]
      rw [show (5 : ℝ) * piWord / 5 = 2 * (piWord / 2) by ring]
      ring
    rw [hc] at hn
    have hp : radial 5 (spaced j) * Real.cos (piWord / 2) ^ 2 ≤ (2 / 1000000) ^ 2 :=
      (mul_le_of_le_one_left (sq_nonneg _) hr1).trans hsq
    have hp0 : 0 ≤ radial 5 (spaced j) * Real.cos (piWord / 2) ^ 2 := mul_nonneg hr0 (sq_nonneg _)
    rw [mul_zero, mul_zero, sub_zero]
    rw [abs_le] at hn ⊢
    norm_num at hp
    constructor <;> linarith

/-! ## The postcondition -/

/-- The predicate's mask is that number. -/
theorem mask_number (d : ℝ) :
    (FloatOps.uitofp .f32 (BitVec.ofBool (decide ((d : EReal) < ((5 : ℝ) : EReal)))) : Ideal .f32) = ((mask d : ℝ) : EReal) := by
  show (((BitVec.ofBool (decide ((d : EReal) < ((5 : ℝ) : EReal)))).toNat : ℝ) : EReal) = _
  unfold mask
  by_cases h : d < 5
  · rw [decide_eq_true (EReal.coe_lt_coe_iff.2 h), if_pos h]; simp
  · rw [decide_eq_false (fun e => h (EReal.coe_lt_coe_iff.1 e)), if_neg h]; simp

/-- The word of the first centre. -/
theorem bits_start : Ideal.ofBits .f32 0x3BDCC9FF#32 = ((start : ℝ) : EReal) :=
  ofBits_of _ start (by decide +kernel)
/-- The word of 31. -/
theorem bits_last : Ideal.ofBits .f32 0x41F80000#32 = ((31 : ℝ) : EReal) := by
  rw [ofBits_of _ 31 (by decide +kernel)]; push_cast; norm_num
/-- The word of π. -/
theorem bits_pi : Ideal.ofBits .f32 0x40490FDB#32 = (piWord : EReal) := by
  rw [ofBits_of _ (13176795 / 4194304) (by decide +kernel)]; unfold piWord; push_cast; norm_num
/-- The word of 1/10000. -/
theorem bits_tolerance : Ideal.ofBits .f32 0x38D1B717#32 = ((13743895 / 137438953472 : ℝ) : EReal) := by
  rw [ofBits_of _ (13743895 / 137438953472) (by decide +kernel)]; push_cast; norm_num

/-- A centre's index as a number. -/
theorem index_number (j : Fin 32) :
    (FloatOps.sitofp .f32 (BitVec.ofNat 32 j.val) : Ideal .f32) = ((j.val : ℝ) : EReal) := by
  show (((BitVec.ofNat 32 j.val).toInt : ℝ) : EReal) = _
  rw [(by decide +kernel : ∀ j : Fin 32, (BitVec.ofNat 32 j.val).toInt = (j.val : ℤ)) j]
  push_cast
  rfl

/-- The absolute value of a real. -/
theorem absolute (x : ℝ) : (FloatOps.absf ((x : ℝ) : EReal) : Ideal .f32) = ((|x| : ℝ) : EReal) := by
  show max ((x : ℝ) : EReal) (-(x : EReal)) = _
  rw [← EReal.coe_neg, abs_eq_max_neg]
  exact (EReal.coe_strictMono.monotone.map_max).symm

open Cert.Post_near_the_cosine (fn_linspace) in
/-- The predicate's equally spaced centres. -/
theorem linspace_apply (j : Fin 32) :
    fn_linspace (F := Ideal) (constant S_ .f32 0x3BDCC9FF#32) (constant S_ .f32 0x3F800000#32) (ix1 j) = ((spaced j : ℝ) : EReal) := by
  unfold fn_linspace
  pointwise
  show (if h : j.val < 31 then
      Ideal.ofBits .f32 0x3BDCC9FF#32
          * (1 - Ideal.div (FloatOps.sitofp (F := Ideal) .f32 (BitVec.ofNat 32 j.val)) (Ideal.ofBits .f32 0x41F80000#32))
        + Ideal.ofBits .f32 0x3F800000#32
          * Ideal.div (FloatOps.sitofp (F := Ideal) .f32 (BitVec.ofNat 32 j.val)) (Ideal.ofBits .f32 0x41F80000#32)
    else Ideal.ofBits .f32 0x3F800000#32) = _
  rw [index_number, bits_last, bits_start, bits_one, Ideal.div_coe (by norm_num : (31 : ℝ) ≠ 0),
    show (1 : EReal) = ((1 : ℝ) : EReal) from rfl]
  simp only [← EReal.coe_mul, ← EReal.coe_sub, ← EReal.coe_add]
  split_ifs with h
  · refine congrArg Real.toEReal ?_
    unfold spaced
    push_cast
    ring
  · have hj : j.val = 31 := by omega
    refine congrArg Real.toEReal ?_
    unfold spaced
    rw [hj]
    norm_num

/-- Over distances from 0 to 5 the kernel's features meet the predicate at every element. -/
theorem post_holds (x0 : Vec Ideal S3200000x1 .f32) (x1 x2 x3) (D : S3200000x1.Idx → ℝ)
    (hD : ∀ i, x0 i = ((D i : ℝ) : EReal)) (h0 : ∀ i, 0 ≤ D i) (h5 : ∀ i, D i ≤ 5) :
    Cert.Post_near_the_cosine.fn (F := Ideal) x0 x1 x2 x3 (Cert.KernelIdeal.Strided.features D) = fun _ => 1#1 := by
  funext i
  idx_vars i
  pointwise [Cert.Post_near_the_cosine.fn, Cert.Post_near_the_cosine.fn_part1]
  rw [linspace_apply, hD, bits_beta, bits_half, bits_pi, bits_five, bits_tolerance,
    mask_number, Ideal.div_coe (by norm_num : (5 : ℝ) ≠ 0),
    show (1 : EReal) = ((1 : ℝ) : EReal) from rfl]
  have hf : Cert.KernelIdeal.Strided.features D (ix2 i0 i1) = ((feature (D (ix2 i0 0)) (centre i1) : ℝ) : EReal) := rfl
  rw [hf]
  simp only [← EReal.coe_neg, Ideal.exp_coe, ← EReal.coe_sub, ← EReal.coe_mul, Ideal.cos_coe, ← EReal.coe_add]
  refine (congrArg BitVec.ofBool (decide_eq_true ?_)).trans rfl
  refine le_of_eq_of_le (absolute _) (EReal.coe_le_coe_iff.2 ?_)
  have hn := feature_near_masked (D (ix2 i0 0)) (h0 _) (h5 _) i1
  unfold cosineCutoff at hn
  rw [show D (ix2 i0 0) * piWord / 5 = D (ix2 i0 0) * piWord * (1 / 5) by ring] at hn
  exact hn.trans (by norm_num)

end Cert.Radial

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.Comparison
public import proofs.«01_k».proof.Proof.NearCosine
public import Idealize.ShloMosaic.Adequacy
public import Idealize.ShloMosaic.Init

@[expose] public section

noncomputable section

namespace Cert.Proof

open Idealize.ShloMosaic Idealize.SL.Sem
open Cert.Radial

/-- The kernel's frame. -/
theorem frame_kernel : Cert.quiescent_Kernel (hKernel := Cert.Kernel.Gen.facts) :=
  fun m g _ => Cert.Kernel.Strided.frame m g

/-- The idealized kernel's frame, from any memory. -/
theorem frame_ideal : Cert.quiescent_KernelIdeal (hKernelIdeal := Cert.KernelIdeal.Gen.facts) :=
  fun m g _ => Cert.KernelIdeal.Strided.frame m g

/-- The reference's frame, from any memory. -/
theorem frame_reference : Cert.quiescent_ReferenceIdeal (hReferenceIdeal := Cert.ReferenceIdeal.Gen.facts) :=
  fun m g _ => reference_frame m g

/-- Below the cutoff the kernel and the reference end with the same features. -/
theorem same_features : Cert.algebraic_KernelIdeal_ReferenceIdeal_pre_below_the_cutoff
    (hKernelIdeal := Cert.KernelIdeal.Gen.facts) (hReferenceIdeal := Cert.ReferenceIdeal.Gen.facts)
    (hPre_below_the_cutoff := facts_below) := by
  intro m g m' g' hpre hagree
  choose D hD h5 using fun c : Dev Cert.KernelIdeal.nD => below_at _ _ _ _ (hpre c)
  refine ⟨fun c => Cert.KernelIdeal.Strided.features (D c), Cert.KernelIdeal.Strided.run_value m g D hD,
    reference_value m' g' D (fun c i => ?_) h5⟩
  rw [(hagree c).1]
  exact hD c i

/-- From 0 to 5 the kernel ends within 1/10000 of the features of the reference's own cosine. -/
theorem near_the_cosine : Cert.holds_KernelIdeal_near_the_cosine_pre_in_range
    (hKernelIdeal := Cert.KernelIdeal.Gen.facts) (hPre_in_range := facts_range) (hPost_near_the_cosine := facts_near) := by
  intro m g hpre
  choose D hD h0 h5 using fun c : Dev Cert.KernelIdeal.nD => range_at _ _ _ _ (hpre c)
  refine (θ_run Cert.KernelIdeal.defs _ _).mono (fun r h c => ?_) (Cert.KernelIdeal.Strided.run_value m g D hD)
  obtain ⟨hv, ha⟩ := h c
  refine ⟨ha.1, ha.2.1, ha.2.2.1, ha.2.2.2, ?_⟩
  rw [hv]
  exact post_holds _ _ _ _ (D c) (hD c) (h0 c) (h5 c)

theorem claim : Cert.Claim :=
  ⟨Cert.Kernel.Gen.facts, Cert.KernelIdeal.Gen.facts, Cert.ReferenceIdeal.Gen.facts, facts_below, facts_range, facts_near,
    frame_kernel, frame_ideal, fun m g _ => Cert.KernelIdeal.Strided.frame m g,
    fun m g _ => Cert.KernelIdeal.Strided.frame m g, frame_reference,
    fun m g _ => reference_frame m g, trivial, same_features, near_the_cosine⟩

end Cert.Proof

end
